-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S9 : Shape := ⟨1, ![9]⟩
abbrev S12 : Shape := ⟨1, ![12]⟩
abbrev S11 : Shape := ⟨1, ![11]⟩
abbrev S_ : Shape := ⟨0, ![]⟩
abbrev S1 : Shape := ⟨1, ![1]⟩
abbrev S32x512 : Shape := ⟨2, ![32, 512]⟩
abbrev S80x512 : Shape := ⟨2, ![80, 512]⟩
abbrev S16x512 : Shape := ⟨2, ![16, 512]⟩
abbrev S8x512 : Shape := ⟨2, ![8, 512]⟩
abbrev S24x512 : Shape := ⟨2, ![24, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2048x512, .f32⟩
  | _, _ => ⟨S1024x512, .f32⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v51 : BitVec 32 := Scalar.muli v9 c16_i32_29
  let v52 : BitVec 32 := Scalar.addi c0_i32_30 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v53 : BitVec 32 := Scalar.muli v5 c4_i32_31
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v55 : BitVec 32 := Scalar.muli v8 c1_i32_32
  let v56 : BitVec 32 := Scalar.addi v54 v55
  v56.toNat
def k0_dev2 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v57 : BitVec 32 := Scalar.muli v2 c16_i32_34
  let v58 : BitVec 32 := Scalar.addi c0_i32_35 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_36 : BitVec 32 := 4#32
  let v59 : BitVec 32 := Scalar.muli v30 c4_i32_36
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.muli v8 c1_i32_37
  let v62 : BitVec 32 := Scalar.addi v60 v61
  v62.toNat
def k0_dev3 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v63 : BitVec 32 := Scalar.muli v2 c16_i32_39
  let v64 : BitVec 32 := Scalar.addi c0_i32_40 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v65 : BitVec 32 := Scalar.muli v5 c4_i32_41
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_42 : BitVec 32 := 1#32
  let v67 : BitVec 32 := Scalar.muli v31 c1_i32_42
  let v68 : BitVec 32 := Scalar.addi v66 v67
  v68.toNat
def k0_off1 (d0 : Dev nD) (c0_i32_44 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v48 : BitVec 32 := Scalar.muli v2 c1024_i32
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v32 : BitVec 32 := Scalar.muli c2_i32_16 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c256_i32 : BitVec 32 := 256#32
  let v34 : BitVec 32 := Scalar.muli v33 c256_i32
  let v70 : BitVec 32 := Scalar.addi v48 v34
  let v71 : BitVec 32 := Scalar.addi v70 c0_i32_44
  let c0_i32_51 : BitVec 32 := 0#32
  ![v71.toNat, 0]
def k0_off2 (d0 : Dev nD) (c0_i32_43 : BitVec 32) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v32 : BitVec 32 := Scalar.muli c2_i32_16 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c256_i32 : BitVec 32 := 256#32
  let v34 : BitVec 32 := Scalar.muli v33 c256_i32
  let v69 : BitVec 32 := Scalar.addi v34 c0_i32_43
  let c0_i32_52 : BitVec 32 := 0#32
  ![v69.toNat, 0]
def k0_dev4 (d0 : Dev nD) : Nat :=
  let c0_i32_48 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_47 : BitVec 32 := 16#32
  let v72 : BitVec 32 := Scalar.muli v9 c16_i32_47
  let v73 : BitVec 32 := Scalar.addi c0_i32_48 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v74 : BitVec 32 := Scalar.muli v5 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v76 : BitVec 32 := Scalar.muli v8 c1_i32_50
  let v77 : BitVec 32 := Scalar.addi v75 v76
  v77.toNat
def k0_dev5 (d0 : Dev nD) : Nat :=
  let c0_i32_57 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_56 : BitVec 32 := 16#32
  let v87 : BitVec 32 := Scalar.muli v9 c16_i32_56
  let v88 : BitVec 32 := Scalar.addi c0_i32_57 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v89 : BitVec 32 := Scalar.muli v5 c4_i32_58
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v91 : BitVec 32 := Scalar.muli v8 c1_i32_59
  let v92 : BitVec 32 := Scalar.addi v90 v91
  v92.toNat
def k0_dev6 (d0 : Dev nD) : Nat :=
  let c0_i32_66 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_65 : BitVec 32 := 16#32
  let v102 : BitVec 32 := Scalar.muli v9 c16_i32_65
  let v103 : BitVec 32 := Scalar.addi c0_i32_66 v102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v104 : BitVec 32 := Scalar.muli v5 c4_i32_67
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v106 : BitVec 32 := Scalar.muli v8 c1_i32_68
  let v107 : BitVec 32 := Scalar.addi v105 v106
  v107.toNat
def k0_dev7 (d0 : Dev nD) : Nat :=
  let c0_i32_75 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_74 : BitVec 32 := 16#32
  let v117 : BitVec 32 := Scalar.muli v9 c16_i32_74
  let v118 : BitVec 32 := Scalar.addi c0_i32_75 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v119 : BitVec 32 := Scalar.muli v5 c4_i32_76
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.muli v8 c1_i32_77
  let v122 : BitVec 32 := Scalar.addi v120 v121
  v122.toNat
def k0_dev8 (d0 : Dev nD) : Nat :=
  let c0_i32_84 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_83 : BitVec 32 := 16#32
  let v132 : BitVec 32 := Scalar.muli v9 c16_i32_83
  let v133 : BitVec 32 := Scalar.addi c0_i32_84 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v134 : BitVec 32 := Scalar.muli v5 c4_i32_85
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v136 : BitVec 32 := Scalar.muli v8 c1_i32_86
  let v137 : BitVec 32 := Scalar.addi v135 v136
  v137.toNat
def k0_dev9 (d0 : Dev nD) : Nat :=
  let c0_i32_92 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_91 : BitVec 32 := 16#32
  let v147 : BitVec 32 := Scalar.muli v9 c16_i32_91
  let v148 : BitVec 32 := Scalar.addi c0_i32_92 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v149 : BitVec 32 := Scalar.muli v5 c4_i32_93
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v151 : BitVec 32 := Scalar.muli v8 c1_i32_94
  let v152 : BitVec 32 := Scalar.addi v150 v151
  v152.toNat
def k0_dev10 (d0 : Dev nD) : Nat :=
  let c0_i32_100 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_99 : BitVec 32 := 16#32
  let v162 : BitVec 32 := Scalar.muli v9 c16_i32_99
  let v163 : BitVec 32 := Scalar.addi c0_i32_100 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v164 : BitVec 32 := Scalar.muli v5 c4_i32_101
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v166 : BitVec 32 := Scalar.muli v8 c1_i32_102
  let v167 : BitVec 32 := Scalar.addi v165 v166
  v167.toNat
def k0_dev11 (d0 : Dev nD) : Nat :=
  let c0_i32_108 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_107 : BitVec 32 := 16#32
  let v177 : BitVec 32 := Scalar.muli v9 c16_i32_107
  let v178 : BitVec 32 := Scalar.addi c0_i32_108 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_109 : BitVec 32 := 4#32
  let v179 : BitVec 32 := Scalar.muli v5 c4_i32_109
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v181 : BitVec 32 := Scalar.muli v8 c1_i32_110
  let v182 : BitVec 32 := Scalar.addi v180 v181
  v182.toNat
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v48 : BitVec 32 := Scalar.muli v2 c1024_i32
  let c2_i32_24 : BitVec 32 := 2#32
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v43 : BitVec 32 := Scalar.subi c1_i32_23 v19
  let v44 : BitVec 32 := Scalar.muli c2_i32_24 v43
  let c1_i32_25 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v45 : BitVec 32 := Scalar.subi c1_i32_25 v29
  let v46 : BitVec 32 := Scalar.addi v44 v45
  let c256_i32_26 : BitVec 32 := 256#32
  let v47 : BitVec 32 := Scalar.muli v46 c256_i32_26
  let v189 : BitVec 32 := Scalar.addi v48 v47
  let c0_i32_118 : BitVec 32 := 0#32
  ![v189.toNat, 0]
def k0_off4 (d0 : Dev nD) : Fin 2 → Nat :=
  let c2_i32_24 : BitVec 32 := 2#32
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v43 : BitVec 32 := Scalar.subi c1_i32_23 v19
  let v44 : BitVec 32 := Scalar.muli c2_i32_24 v43
  let c1_i32_25 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v45 : BitVec 32 := Scalar.subi c1_i32_25 v29
  let v46 : BitVec 32 := Scalar.addi v44 v45
  let c256_i32_26 : BitVec 32 := 256#32
  let v47 : BitVec 32 := Scalar.muli v46 c256_i32_26
  let c0_i32_119 : BitVec 32 := 0#32
  ![v47.toNat, 0]
def k0_dev12 (d0 : Dev nD) : Nat :=
  let c0_i32_115 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_114 : BitVec 32 := 16#32
  let v190 : BitVec 32 := Scalar.muli v9 c16_i32_114
  let v191 : BitVec 32 := Scalar.addi c0_i32_115 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v192 : BitVec 32 := Scalar.muli v5 c4_i32_116
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v194 : BitVec 32 := Scalar.muli v8 c1_i32_117
  let v195 : BitVec 32 := Scalar.addi v193 v194
  v195.toNat
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v48 : BitVec 32 := Scalar.muli v2 c1024_i32
  let c0_i32_120 : BitVec 32 := 0#32
  ![v48.toNat, 0]
def k0_off6 (d0 : Dev nD) (c0_i32_129 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v32 : BitVec 32 := Scalar.muli c2_i32_16 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c256_i32 : BitVec 32 := 256#32
  let v34 : BitVec 32 := Scalar.muli v33 c256_i32
  let v213 : BitVec 32 := Scalar.addi v49 v34
  let v214 : BitVec 32 := Scalar.addi v213 c0_i32_129
  let c0_i32_136 : BitVec 32 := 0#32
  ![v214.toNat, 0]
def k0_dev13 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v215 : BitVec 32 := Scalar.muli v2 c16_i32_132
  let v216 : BitVec 32 := Scalar.addi c0_i32_133 v215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_134 : BitVec 32 := 4#32
  let v217 : BitVec 32 := Scalar.muli v30 c4_i32_134
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v219 : BitVec 32 := Scalar.muli v8 c1_i32_135
  let v220 : BitVec 32 := Scalar.addi v218 v219
  v220.toNat
def k0_dev14 (d0 : Dev nD) : Nat :=
  let c0_i32_141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_140 : BitVec 32 := 16#32
  let v227 : BitVec 32 := Scalar.muli v2 c16_i32_140
  let v228 : BitVec 32 := Scalar.addi c0_i32_141 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_142 : BitVec 32 := 4#32
  let v229 : BitVec 32 := Scalar.muli v5 c4_i32_142
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_143 : BitVec 32 := 1#32
  let v231 : BitVec 32 := Scalar.muli v31 c1_i32_143
  let v232 : BitVec 32 := Scalar.addi v230 v231
  v232.toNat
def k0_dev15 (d0 : Dev nD) : Nat :=
  let c0_i32_158 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_157 : BitVec 32 := 16#32
  let v251 : BitVec 32 := Scalar.muli v2 c16_i32_157
  let v252 : BitVec 32 := Scalar.addi c0_i32_158 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_159 : BitVec 32 := 4#32
  let v253 : BitVec 32 := Scalar.muli v30 c4_i32_159
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v255 : BitVec 32 := Scalar.muli v8 c1_i32_160
  let v256 : BitVec 32 := Scalar.addi v254 v255
  v256.toNat
def k0_dev16 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v263 : BitVec 32 := Scalar.muli v2 c16_i32_165
  let v264 : BitVec 32 := Scalar.addi c0_i32_166 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v265 : BitVec 32 := Scalar.muli v5 c4_i32_167
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_168 : BitVec 32 := 1#32
  let v267 : BitVec 32 := Scalar.muli v31 c1_i32_168
  let v268 : BitVec 32 := Scalar.addi v266 v267
  v268.toNat
def k0_dev17 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v287 : BitVec 32 := Scalar.muli v2 c16_i32_182
  let v288 : BitVec 32 := Scalar.addi c0_i32_183 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_184 : BitVec 32 := 4#32
  let v289 : BitVec 32 := Scalar.muli v30 c4_i32_184
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v291 : BitVec 32 := Scalar.muli v8 c1_i32_185
  let v292 : BitVec 32 := Scalar.addi v290 v291
  v292.toNat
def k0_dev18 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v299 : BitVec 32 := Scalar.muli v2 c16_i32_190
  let v300 : BitVec 32 := Scalar.addi c0_i32_191 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_192 : BitVec 32 := 4#32
  let v301 : BitVec 32 := Scalar.muli v5 c4_i32_192
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_193 : BitVec 32 := 1#32
  let v303 : BitVec 32 := Scalar.muli v31 c1_i32_193
  let v304 : BitVec 32 := Scalar.addi v302 v303
  v304.toNat
def k0_dev19 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v323 : BitVec 32 := Scalar.muli v2 c16_i32_207
  let v324 : BitVec 32 := Scalar.addi c0_i32_208 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_209 : BitVec 32 := 4#32
  let v325 : BitVec 32 := Scalar.muli v30 c4_i32_209
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v327 : BitVec 32 := Scalar.muli v8 c1_i32_210
  let v328 : BitVec 32 := Scalar.addi v326 v327
  v328.toNat
def k0_dev20 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v335 : BitVec 32 := Scalar.muli v2 c16_i32_215
  let v336 : BitVec 32 := Scalar.addi c0_i32_216 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v337 : BitVec 32 := Scalar.muli v5 c4_i32_217
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_218 : BitVec 32 := 1#32
  let v339 : BitVec 32 := Scalar.muli v31 c1_i32_218
  let v340 : BitVec 32 := Scalar.addi v338 v339
  v340.toNat
def k0_dev21 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v359 : BitVec 32 := Scalar.muli v2 c16_i32_232
  let v360 : BitVec 32 := Scalar.addi c0_i32_233 v359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_234 : BitVec 32 := 4#32
  let v361 : BitVec 32 := Scalar.muli v30 c4_i32_234
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v363 : BitVec 32 := Scalar.muli v8 c1_i32_235
  let v364 : BitVec 32 := Scalar.addi v362 v363
  v364.toNat
def k0_dev22 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v371 : BitVec 32 := Scalar.muli v2 c16_i32_240
  let v372 : BitVec 32 := Scalar.addi c0_i32_241 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v373 : BitVec 32 := Scalar.muli v5 c4_i32_242
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_243 : BitVec 32 := 1#32
  let v375 : BitVec 32 := Scalar.muli v31 c1_i32_243
  let v376 : BitVec 32 := Scalar.addi v374 v375
  v376.toNat
def k0_dev23 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v395 : BitVec 32 := Scalar.muli v2 c16_i32_257
  let v396 : BitVec 32 := Scalar.addi c0_i32_258 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_259 : BitVec 32 := 4#32
  let v397 : BitVec 32 := Scalar.muli v30 c4_i32_259
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v399 : BitVec 32 := Scalar.muli v8 c1_i32_260
  let v400 : BitVec 32 := Scalar.addi v398 v399
  v400.toNat
def k0_dev24 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v407 : BitVec 32 := Scalar.muli v2 c16_i32_265
  let v408 : BitVec 32 := Scalar.addi c0_i32_266 v407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_267 : BitVec 32 := 4#32
  let v409 : BitVec 32 := Scalar.muli v5 c4_i32_267
  let v410 : BitVec 32 := Scalar.addi v408 v409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_268 : BitVec 32 := 1#32
  let v411 : BitVec 32 := Scalar.muli v31 c1_i32_268
  let v412 : BitVec 32 := Scalar.addi v410 v411
  v412.toNat
def k0_dev25 (d0 : Dev nD) : Nat :=
  let c0_i32_283 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_282 : BitVec 32 := 16#32
  let v431 : BitVec 32 := Scalar.muli v2 c16_i32_282
  let v432 : BitVec 32 := Scalar.addi c0_i32_283 v431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_284 : BitVec 32 := 4#32
  let v433 : BitVec 32 := Scalar.muli v30 c4_i32_284
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v435 : BitVec 32 := Scalar.muli v8 c1_i32_285
  let v436 : BitVec 32 := Scalar.addi v434 v435
  v436.toNat
def k0_dev26 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v443 : BitVec 32 := Scalar.muli v2 c16_i32_290
  let v444 : BitVec 32 := Scalar.addi c0_i32_291 v443
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v445 : BitVec 32 := Scalar.muli v5 c4_i32_292
  let v446 : BitVec 32 := Scalar.addi v444 v445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_293 : BitVec 32 := 1#32
  let v447 : BitVec 32 := Scalar.muli v31 c1_i32_293
  let v448 : BitVec 32 := Scalar.addi v446 v447
  v448.toNat
def k0_dev27 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v467 : BitVec 32 := Scalar.muli v2 c16_i32_307
  let v468 : BitVec 32 := Scalar.addi c0_i32_308 v467
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_309 : BitVec 32 := 4#32
  let v469 : BitVec 32 := Scalar.muli v30 c4_i32_309
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v471 : BitVec 32 := Scalar.muli v8 c1_i32_310
  let v472 : BitVec 32 := Scalar.addi v470 v471
  v472.toNat
def k0_dev28 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v479 : BitVec 32 := Scalar.muli v2 c16_i32_315
  let v480 : BitVec 32 := Scalar.addi c0_i32_316 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v481 : BitVec 32 := Scalar.muli v5 c4_i32_317
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_318 : BitVec 32 := 1#32
  let v483 : BitVec 32 := Scalar.muli v31 c1_i32_318
  let v484 : BitVec 32 := Scalar.addi v482 v483
  v484.toNat
def k0_off7 (d0 : Dev nD) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_20 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v39 : BitVec 32 := Scalar.muli c2_i32_20 v19
  let c1_i32_21 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v40 : BitVec 32 := Scalar.subi c1_i32_21 v29
  let v41 : BitVec 32 := Scalar.addi v39 v40
  let c256_i32_22 : BitVec 32 := 256#32
  let v42 : BitVec 32 := Scalar.muli v41 c256_i32_22
  let v501 : BitVec 32 := Scalar.addi v49 v42
  let c80_i32 : BitVec 32 := 80#32
  let v502 : BitVec 32 := Scalar.addi v501 c80_i32
  let c0_i32_335 : BitVec 32 := 0#32
  ![v502.toNat, 0]
def k0_dev29 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v503 : BitVec 32 := Scalar.muli v2 c16_i32_331
  let v504 : BitVec 32 := Scalar.addi c0_i32_332 v503
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_333 : BitVec 32 := 4#32
  let v505 : BitVec 32 := Scalar.muli v30 c4_i32_333
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v507 : BitVec 32 := Scalar.muli v8 c1_i32_334
  let v508 : BitVec 32 := Scalar.addi v506 v507
  v508.toNat
def k0_off8 (d0 : Dev nD) (c96_i32_345 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_20 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v39 : BitVec 32 := Scalar.muli c2_i32_20 v19
  let c1_i32_21 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v40 : BitVec 32 := Scalar.subi c1_i32_21 v29
  let v41 : BitVec 32 := Scalar.addi v39 v40
  let c256_i32_22 : BitVec 32 := 256#32
  let v42 : BitVec 32 := Scalar.muli v41 c256_i32_22
  let v525 : BitVec 32 := Scalar.addi v49 v42
  let v526 : BitVec 32 := Scalar.addi v525 c96_i32_345
  let c0_i32_351 : BitVec 32 := 0#32
  ![v526.toNat, 0]
def k0_dev30 (d0 : Dev nD) : Nat :=
  let c0_i32_348 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_347 : BitVec 32 := 16#32
  let v527 : BitVec 32 := Scalar.muli v2 c16_i32_347
  let v528 : BitVec 32 := Scalar.addi c0_i32_348 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_349 : BitVec 32 := 4#32
  let v529 : BitVec 32 := Scalar.muli v30 c4_i32_349
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v531 : BitVec 32 := Scalar.muli v8 c1_i32_350
  let v532 : BitVec 32 := Scalar.addi v530 v531
  v532.toNat
def k0_dev31 (d0 : Dev nD) : Nat :=
  let c0_i32_364 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_363 : BitVec 32 := 16#32
  let v551 : BitVec 32 := Scalar.muli v2 c16_i32_363
  let v552 : BitVec 32 := Scalar.addi c0_i32_364 v551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_365 : BitVec 32 := 4#32
  let v553 : BitVec 32 := Scalar.muli v30 c4_i32_365
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v555 : BitVec 32 := Scalar.muli v8 c1_i32_366
  let v556 : BitVec 32 := Scalar.addi v554 v555
  v556.toNat
def k0_off9 (d0 : Dev nD) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_20 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v39 : BitVec 32 := Scalar.muli c2_i32_20 v19
  let c1_i32_21 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v40 : BitVec 32 := Scalar.subi c1_i32_21 v29
  let v41 : BitVec 32 := Scalar.addi v39 v40
  let c256_i32_22 : BitVec 32 := 256#32
  let v42 : BitVec 32 := Scalar.muli v41 c256_i32_22
  let v573 : BitVec 32 := Scalar.addi v49 v42
  let c160_i32_377 : BitVec 32 := 160#32
  let v574 : BitVec 32 := Scalar.addi v573 c160_i32_377
  let c0_i32_383 : BitVec 32 := 0#32
  ![v574.toNat, 0]
def k0_dev32 (d0 : Dev nD) : Nat :=
  let c0_i32_380 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_379 : BitVec 32 := 16#32
  let v575 : BitVec 32 := Scalar.muli v2 c16_i32_379
  let v576 : BitVec 32 := Scalar.addi c0_i32_380 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_381 : BitVec 32 := 4#32
  let v577 : BitVec 32 := Scalar.muli v30 c4_i32_381
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v579 : BitVec 32 := Scalar.muli v8 c1_i32_382
  let v580 : BitVec 32 := Scalar.addi v578 v579
  v580.toNat
def k0_off10 (d0 : Dev nD) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_18 : BitVec 32 := 2#32
  let c1_i32_17 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v35 : BitVec 32 := Scalar.subi c1_i32_17 v19
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v37 : BitVec 32 := Scalar.addi v36 v29
  let c256_i32_19 : BitVec 32 := 256#32
  let v38 : BitVec 32 := Scalar.muli v37 c256_i32_19
  let v597 : BitVec 32 := Scalar.addi v49 v38
  let c168_i32 : BitVec 32 := 168#32
  let v598 : BitVec 32 := Scalar.addi v597 c168_i32
  let c0_i32_399 : BitVec 32 := 0#32
  ![v598.toNat, 0]
def k0_dev33 (d0 : Dev nD) : Nat :=
  let c0_i32_396 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_395 : BitVec 32 := 16#32
  let v599 : BitVec 32 := Scalar.muli v2 c16_i32_395
  let v600 : BitVec 32 := Scalar.addi c0_i32_396 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_397 : BitVec 32 := 4#32
  let v601 : BitVec 32 := Scalar.muli v5 c4_i32_397
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_398 : BitVec 32 := 1#32
  let v603 : BitVec 32 := Scalar.muli v31 c1_i32_398
  let v604 : BitVec 32 := Scalar.addi v602 v603
  v604.toNat
def k0_off11 (d0 : Dev nD) (c192_i32_409 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_27 : BitVec 32 := 1024#32
  let v49 : BitVec 32 := Scalar.muli v9 c1024_i32_27
  let c2_i32_18 : BitVec 32 := 2#32
  let c1_i32_17 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v35 : BitVec 32 := Scalar.subi c1_i32_17 v19
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v37 : BitVec 32 := Scalar.addi v36 v29
  let c256_i32_19 : BitVec 32 := 256#32
  let v38 : BitVec 32 := Scalar.muli v37 c256_i32_19
  let v621 : BitVec 32 := Scalar.addi v49 v38
  let v622 : BitVec 32 := Scalar.addi v621 c192_i32_409
  let c0_i32_416 : BitVec 32 := 0#32
  ![v622.toNat, 0]
def k0_dev34 (d0 : Dev nD) : Nat :=
  let c0_i32_413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_412 : BitVec 32 := 16#32
  let v623 : BitVec 32 := Scalar.muli v2 c16_i32_412
  let v624 : BitVec 32 := Scalar.addi c0_i32_413 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_414 : BitVec 32 := 4#32
  let v625 : BitVec 32 := Scalar.muli v5 c4_i32_414
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_415 : BitVec 32 := 1#32
  let v627 : BitVec 32 := Scalar.muli v31 c1_i32_415
  let v628 : BitVec 32 := Scalar.addi v626 v627
  v628.toNat
def k0_dev35 (d0 : Dev nD) : Nat :=
  let c0_i32_430 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_429 : BitVec 32 := 16#32
  let v647 : BitVec 32 := Scalar.muli v2 c16_i32_429
  let v648 : BitVec 32 := Scalar.addi c0_i32_430 v647
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_431 : BitVec 32 := 4#32
  let v649 : BitVec 32 := Scalar.muli v5 c4_i32_431
  let v650 : BitVec 32 := Scalar.addi v648 v649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_432 : BitVec 32 := 1#32
  let v651 : BitVec 32 := Scalar.muli v31 c1_i32_432
  let v652 : BitVec 32 := Scalar.addi v650 v651
  v652.toNat
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The geometry of the all-gather: the mesh of thirty-two devices, the thirty-two remote transfers every device issues,
and where each of them starts and lands.

A device is numbered `16 x + 4 y + z`. The result has 2048 rows: device `c` holds the half `x` of them in its own input
and receives the other half. Rows are counted here in GROUPS of eight, every boundary of the kernel being a multiple of
eight: a half has 128 groups, a quarter of a half 32, a chunk of a quarter 4. The quarter of the missing half a device
fetches across the x axis itself is numbered by the parities of `y` and `z`.

A transfer is a number below 32, in the order the kernel issues them:
  0 to 7    the chunks of the own quarter, to the x neighbour
  8         the head of the diagonal quarter, to the x neighbour
  9 to 24   each received chunk, to the y neighbour (odd numbers) and to the z neighbour (even numbers)
  25 to 28  rows received over z, relayed to the y neighbour
  29 to 31  rows received over y, relayed to the z neighbour
-/
module

public import proofs.«01_k».proof.Proof.Gen.KernelIdeal
public import Idealize.ShloMosaic.Lib.Pipeline.Launch
public import Idealize.ShloMosaic.Lib.Tactic

@[expose] public section

noncomputable section

namespace Cert.Gather

open Cert.KernelIdeal Cert.KernelIdeal.Gen
open Idealize.ShloMosaic Idealize.ShloMosaic.TcCoe

/-! ## Devices and transfers -/

/-- A transfer, numbered in the order of issue. -/
abbrev Tr : Type := Fin 32

/-- The neighbour of a device along an axis: the device with that coordinate's lowest bit flipped. -/
def peer (a : Fin 3) (c : Fin 32) : Fin 32 := match a with
  | 0 => ⟨(c.val + 16) % 32, Nat.mod_lt _ (by decide)⟩
  | 1 => if h : c.val / 4 % 2 = 0 then ⟨(c.val + 4) % 32, Nat.mod_lt _ (by decide)⟩ else ⟨c.val - 4, by omega⟩
  | 2 => if h : c.val % 2 = 0 then ⟨(c.val + 1) % 32, Nat.mod_lt _ (by decide)⟩ else ⟨c.val - 1, by omega⟩

theorem peer_peer (a : Fin 3) (c : Fin 32) : peer a (peer a c) = c := by revert a c; decide +kernel

/-- The axis a transfer goes along. -/
def axis (t : Tr) : Fin 3 :=
  if t.val < 9 then 0 else if t.val < 25 then (if t.val % 2 = 1 then 1 else 2) else if t.val < 29 then 1 else 2

/-- How many groups of rows a transfer moves. -/
def len (t : Tr) : ℕ :=
  if t.val = 8 then 10 else if t.val = 25 then 2 else if t.val = 28 then 1 else if t.val = 29 then 3 else 4

/-- How many rows. -/
abbrev rows (t : Tr) : ℕ := 8 * len t

/-- The first group of a transfer inside the quarter it lands in. -/
def inQuarter (t : Tr) : ℕ :=
  if t.val < 8 then 4 * t.val else if t.val = 8 then 0 else if t.val < 25 then 4 * ((t.val - 9) / 2)
  else if t.val = 25 then 10 else if t.val = 26 then 12 else if t.val = 27 then 16 else if t.val = 28 then 20
  else if t.val = 29 then 21 else if t.val = 30 then 24 else 28

/-- Whether the quarter a transfer lands in differs from the receiver's own in the parity of `y`, -/
def crossY (t : Tr) : Bool := t.val = 8 || 25 ≤ t.val || (9 ≤ t.val && t.val % 2 = 1)
/-- and whether in the parity of `z`. -/
def crossZ (t : Tr) : Bool := t.val = 8 || 25 ≤ t.val || (9 ≤ t.val && t.val % 2 = 0)

/-- The first group of the quarter with the device's parities, flipped where asked. -/
def quarter (fy fz : Bool) (c : Fin 32) : ℕ :=
  32 * (2 * ((c.val / 4 + fy.toNat) % 2) + (c.val + fz.toNat) % 2)

/-- The first group of the half a device holds itself. -/
abbrev own (c : Fin 32) : ℕ := 128 * (c.val / 16)
/-- The first group of the half it receives. -/
abbrev rem (c : Fin 32) : ℕ := 128 * (1 - c.val / 16)

/-- The first group a transfer fills in the result of the device `c` that receives it. -/
def top (t : Tr) (c : Fin 32) : ℕ := rem c + quarter (crossY t) (crossZ t) c + inQuarter t

/-- The first group of the sender's input a transfer along the x axis reads. -/
def xtop (t : Tr) (c : Fin 32) : ℕ := quarter (crossY t) (crossZ t) c + inQuarter t

/-- A transfer along the x axis lands in the sender's own half, at the group it was read from. -/
theorem top_x : ∀ (t : Tr) (c : Fin 32), t.val < 9 → top t (peer (axis t) c) = own c + xtop t c := by decide +kernel

theorem top_le : ∀ (t : Tr) (c : Fin 32), top t c + len t ≤ 256 := by decide +kernel
theorem xtop_le : ∀ (t : Tr) (c : Fin 32), xtop t c + len t ≤ 128 := by decide +kernel
theorem len_pos : ∀ t : Tr, 0 < len t := by decide
theorem len_le : ∀ t : Tr, len t ≤ 10 := by decide

/-- The thirty-two landing places of a device are disjoint, -/
theorem top_disjoint : ∀ (c : Fin 32) (t u : Tr), t ≠ u → top t c + len t ≤ top u c ∨ top u c + len u ≤ top t c := by
  decide +kernel
/-- they avoid the half it holds itself, -/
theorem top_own : ∀ (c : Fin 32) (t : Tr), top t c + len t ≤ own c ∨ own c + 128 ≤ top t c := by decide +kernel
/-- and with it they fill the result. -/
theorem top_cover : ∀ (c : Fin 32) (g : Fin 256), (own c ≤ g.val ∧ g.val < own c + 128) ∨ ∃ t : Tr, top t c ≤ g.val ∧ g.val < top t c + len t := by
  decide +kernel

/-- The rows the transfers along the x axis read are disjoint. -/
theorem xtop_disjoint : ∀ (c : Fin 32) (t u : Tr), t.val < 9 → u.val < 9 → t ≠ u → xtop t c + len t ≤ xtop u c ∨ xtop u c + len u ≤ xtop t c := by
  decide +kernel

/-! ## Whose rows -/

/-- The device whose input the group `g` of device `c`'s result comes from: itself for its own half; in the other half
    its x neighbour, reached over y, z or both according to the quarter — the head of the diagonal quarter directly. -/
def src (c : Fin 32) (g : ℕ) : Fin 32 :=
  if g / 128 = c.val / 16 then c
  else
    let y := g % 128 / 64 = c.val / 4 % 2
    let z := g % 64 / 32 = c.val % 2
    if y then (if z then peer 0 c else peer 0 (peer 2 c))
    else if z then peer 0 (peer 1 c)
    else if g % 32 < 10 then peer 0 c else peer 0 (peer 1 (peer 2 c))

/-- The device a group comes from holds the half the group lies in. -/
theorem src_half : ∀ (c : Fin 32) (g : Fin 256), (src c g.val).val / 16 = g.val / 128 := by decide +kernel

/-- Across the x axis the receiver gets the sender's own rows. -/
theorem src_x : ∀ (t : Tr) (c : Fin 32) (k : Fin 10), t.val < 9 → k.val < len t → src (peer (axis t) c) (top t (peer (axis t) c) + k.val) = c := by
  decide +kernel

/-- Across the other axes sender and receiver have the rows of a transfer from one device. -/
theorem src_yz : ∀ (t : Tr) (c : Fin 32) (k : Fin 10), 9 ≤ t.val → k.val < len t →
    src (peer (axis t) c) (top t (peer (axis t) c) + k.val) = src c (top t (peer (axis t) c) + k.val) := by
  decide +kernel

/-- Its own half a device has from itself. -/
theorem src_own : ∀ (c : Fin 32) (k : Fin 128), src c (own c + k.val) = c := by decide +kernel

/-! ## Sets of rows -/

/-- The elements of the result in the `n` groups of rows from group `a`. -/
def oRows (a n : ℕ) : Finset S2048x512.Idx := Finset.univ.filter fun i => 8 * a ≤ (i 0).val ∧ (i 0).val < 8 * (a + n)
/-- The elements of the input in the `n` groups of rows from group `a`. -/
def xRows (a n : ℕ) : Finset S1024x512.Idx := Finset.univ.filter fun i => 8 * a ≤ (i 0).val ∧ (i 0).val < 8 * (a + n)

theorem mem_oRows {a n : ℕ} {i : S2048x512.Idx} : i ∈ oRows a n ↔ 8 * a ≤ (i 0).val ∧ (i 0).val < 8 * (a + n) := by
  simp only [oRows, Finset.mem_filter, Finset.mem_univ, true_and]
theorem mem_xRows {a n : ℕ} {i : S1024x512.Idx} : i ∈ xRows a n ↔ 8 * a ≤ (i 0).val ∧ (i 0).val < 8 * (a + n) := by
  simp only [xRows, Finset.mem_filter, Finset.mem_univ, true_and]

theorem oRows_disjoint {a n b k : ℕ} (h : a + n ≤ b ∨ b + k ≤ a) : Disjoint (oRows a n) (oRows b k) :=
  Finset.disjoint_left.mpr fun i hi hj => by
    rw [mem_oRows] at hi hj; omega
theorem xRows_disjoint {a n b k : ℕ} (h : a + n ≤ b ∨ b + k ≤ a) : Disjoint (xRows a n) (xRows b k) :=
  Finset.disjoint_left.mpr fun i hi hj => by
    rw [mem_xRows] at hi hj; omega

theorem oRows_add (a n k : ℕ) : oRows a (n + k) = oRows a n ∪ oRows (a + n) k := by
  ext i; rw [Finset.mem_union, mem_oRows, mem_oRows, mem_oRows]; omega

/-- The whole result is the own half and the thirty-two landing places. -/
theorem oRows_all (c : Fin 32) : (Finset.univ : Finset S2048x512.Idx) = oRows (own c) 128 ∪ Finset.univ.biUnion fun t : Tr => oRows (top t c) (len t) := by
  ext i
  simp only [Finset.mem_univ, Finset.mem_union, Finset.mem_biUnion, true_and, true_iff, mem_oRows]
  have hi : (i 0).val < 2048 := (i 0).isLt
  rcases top_cover c ⟨(i 0).val / 8, by omega⟩ with h | ⟨t, h⟩
  · left; simp only at h; omega
  · right; refine ⟨t, ?_⟩; simp only at h; omega

theorem own_disjoint (c : Fin 32) : Disjoint (oRows (own c) 128) (Finset.univ.biUnion fun t : Tr => oRows (top t c) (len t)) := by
  rw [Finset.disjoint_biUnion_right]
  intro t _
  exact oRows_disjoint ((top_own c t).symm)

end Cert.Gather

end
-- ==== Proof.Chains.lean ====
/-
The device numbers and row offsets the kernel computes, in the terms of `Mesh`: every signal and transfer is addressed to
a neighbour, every slice of the result starts at the first row of a transfer's landing place, every slice of the input
at the first row the transfer reads.
-/
module

public import proofs.«01_k».proof.Proof.Mesh

@[expose] public section

noncomputable section

namespace Cert.Gather

open Cert.KernelIdeal Cert.KernelIdeal.Gen
open Idealize.ShloMosaic Idealize.ShloMosaic.TcCoe

/-! ## Devices -/

theorem dev_x (c : Dev nD) :
    k0_dev1 c = (peer 0 c).val ∧ k0_dev4 c = (peer 0 c).val ∧ k0_dev5 c = (peer 0 c).val ∧ k0_dev6 c = (peer 0 c).val
      ∧ k0_dev7 c = (peer 0 c).val ∧ k0_dev8 c = (peer 0 c).val ∧ k0_dev9 c = (peer 0 c).val ∧ k0_dev10 c = (peer 0 c).val
      ∧ k0_dev11 c = (peer 0 c).val ∧ k0_dev12 c = (peer 0 c).val := by
  revert c; decide +kernel

theorem dev_y (c : Dev nD) :
    k0_dev2 c = (peer 1 c).val ∧ k0_dev13 c = (peer 1 c).val ∧ k0_dev15 c = (peer 1 c).val ∧ k0_dev17 c = (peer 1 c).val
      ∧ k0_dev19 c = (peer 1 c).val ∧ k0_dev21 c = (peer 1 c).val ∧ k0_dev23 c = (peer 1 c).val ∧ k0_dev25 c = (peer 1 c).val
      ∧ k0_dev27 c = (peer 1 c).val ∧ k0_dev29 c = (peer 1 c).val ∧ k0_dev30 c = (peer 1 c).val ∧ k0_dev31 c = (peer 1 c).val
      ∧ k0_dev32 c = (peer 1 c).val := by
  revert c; decide +kernel

theorem dev_z (c : Dev nD) :
    k0_dev3 c = (peer 2 c).val ∧ k0_dev14 c = (peer 2 c).val ∧ k0_dev16 c = (peer 2 c).val ∧ k0_dev18 c = (peer 2 c).val
      ∧ k0_dev20 c = (peer 2 c).val ∧ k0_dev22 c = (peer 2 c).val ∧ k0_dev24 c = (peer 2 c).val ∧ k0_dev26 c = (peer 2 c).val
      ∧ k0_dev28 c = (peer 2 c).val ∧ k0_dev33 c = (peer 2 c).val ∧ k0_dev34 c = (peer 2 c).val ∧ k0_dev35 c = (peer 2 c).val := by
  revert c; decide +kernel

/-! ## Offsets -/

/-- A chunk of the own quarter: where it lands in the x neighbour's result, -/
theorem off1_at : ∀ (c : Dev nD) (r : Fin 8), k0_off1 c (BitVec.ofNat 32 (32 * r.val)) = ![8 * top (r.castLE (by decide)) (peer 0 c), 0] := by
  decide +kernel
/-- and where it is read in the input. -/
theorem off2_at : ∀ (c : Dev nD) (r : Fin 8), k0_off2 c (BitVec.ofNat 32 (32 * r.val)) = ![8 * xtop (r.castLE (by decide)) c, 0] := by
  decide +kernel
/-- The head of the diagonal quarter, likewise. -/
theorem off3_at : ∀ c : Dev nD, k0_off3 c = ![8 * top 8 (peer 0 c), 0] := by decide +kernel
theorem off4_at : ∀ c : Dev nD, k0_off4 c = ![8 * xtop 8 c, 0] := by decide +kernel
/-- The own half. -/
theorem off5_at : ∀ c : Dev nD, k0_off5 c = ![8 * own c, 0] := by decide +kernel
/-- A received chunk: where the transfer over y lands, -/
theorem off6_y : ∀ (c : Dev nD) (r : Fin 8), k0_off6 c (BitVec.ofNat 32 (32 * r.val)) = ![8 * top ⟨9 + 2 * r.val, by omega⟩ (peer 1 c), 0] := by
  decide +kernel
/-- and the one over z: at the same rows. -/
theorem off6_z : ∀ (c : Dev nD) (r : Fin 8), k0_off6 c (BitVec.ofNat 32 (32 * r.val)) = ![8 * top ⟨10 + 2 * r.val, by omega⟩ (peer 2 c), 0] := by
  decide +kernel
/-- The relays over y, -/
theorem off7_at : ∀ c : Dev nD, k0_off7 c = ![8 * top 25 (peer 1 c), 0] := by decide +kernel
theorem off8_at : ∀ (c : Dev nD) (r : Fin 2), k0_off8 c (BitVec.ofNat 32 (96 + 32 * r.val)) = ![8 * top ⟨26 + r.val, by omega⟩ (peer 1 c), 0] := by
  decide +kernel
theorem off9_at : ∀ c : Dev nD, k0_off9 c = ![8 * top 28 (peer 1 c), 0] := by decide +kernel
/-- and over z. -/
theorem off10_at : ∀ c : Dev nD, k0_off10 c = ![8 * top 29 (peer 2 c), 0] := by decide +kernel
theorem off11_at : ∀ (c : Dev nD) (r : Fin 2), k0_off11 c (BitVec.ofNat 32 (192 + 32 * r.val)) = ![8 * top ⟨30 + r.val, by omega⟩ (peer 2 c), 0] := by
  decide +kernel

end Cert.Gather

end
-- ==== Proof.Rows.lean ====
/-
What the devices' buffers hold, and the pieces of them the kernel's transfers read and fill.

`fin c` is what device `c`'s result holds in the end. A piece is a run of rows of one buffer at a share; a transfer's
source piece is `srcPts`, its landing place at the receiver `dstPts`. The lemmas `landed_x`, `landed_yz` and
`landed_own` say what a landing place holds once the bytes of the source are in it: the final contents.
-/
module

public import proofs.«01_k».proof.Proof.Chains
public import Idealize.ShloMosaic.Lib.Pipeline.Kit
public import Idealize.ShloMosaic.Lib.Pipeline.BigSepL
public import Idealize.ShloMosaic.Lib.Pipeline.TalkSched

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: one duty name per axis. -/
abbrev UB : Type := URounds (GSem nD τ sig) (Fin 3)
abbrev UU : Type := UR sig nD τ × UB

local notation "𝕄" => MT nD τ sig Unit (Elt F) ℕ UU ℕ

/-! ## The buffers and their slices -/

/-- Device `c`'s input buffer and its result buffer. -/
abbrev inL (c : Dev nD) : Loc nD τ sig := (c : Thread nD τ).loc main_arg0
abbrev outL (c : Dev nD) : Loc nD τ sig := (c : Thread nD τ).loc main_v1

/-- `n` rows of the result from a computed offset, -/
abbrev oSlice (n : ℕ) (off : Fin 2 → ℕ) (inb : ∀ a, off a + (⟨2, ![n, 512]⟩ : Shape).size a ≤ S2048x512.size a) :
    Memref sig .tc .hbm ⟨2, ![n, 512]⟩ .f32 :=
  (Memref.whole main_v1).slice (Rect.unit (s := S2048x512) off (⟨2, ![n, 512]⟩ : Shape).size inb) (fun _ => rfl)
/-- and of the input. -/
abbrev xSlice (n : ℕ) (off : Fin 2 → ℕ) (inb : ∀ a, off a + (⟨2, ![n, 512]⟩ : Shape).size a ≤ S1024x512.size a) :
    Memref sig .tc .hbm ⟨2, ![n, 512]⟩ .f32 :=
  (Memref.whole main_arg0).slice (Rect.unit (s := S1024x512) off (⟨2, ![n, 512]⟩ : Shape).size inb) (fun _ => rfl)

/-- A slice's elements are those of its groups of rows. -/
theorem oSlice_set {n k a : ℕ} {off : Fin 2 → ℕ} (inb) (hn : n = 8 * k) (ho : off = ![8 * a, 0]) : (oSlice n off inb).view.set = oRows a k := by
  subst hn ho
  ext i
  show i ∈ ((View.whole main_v1).slice _).set ↔ _
  rw [View.set_slice_whole, Rect.mem_set_unit, mem_oRows]
  refine Iff.trans (Fin.forall_fin_two (p := fun b : Fin 2 => (![8 * a, 0] : Fin 2 → ℕ) b ≤ (i b).val ∧ (i b).val < (![8 * a, 0] : Fin 2 → ℕ) b + (![8 * k, 512] : Fin 2 → ℕ) b)) ?_
  have h1 : (i 1).val < 512 := (i 1).isLt
  show (8 * a ≤ (i 0).val ∧ (i 0).val < 8 * a + 8 * k) ∧ (0 ≤ (i 1).val ∧ (i 1).val < 0 + 512) ↔ _
  omega

theorem xSlice_set {n k a : ℕ} {off : Fin 2 → ℕ} (inb) (hn : n = 8 * k) (ho : off = ![8 * a, 0]) : (xSlice n off inb).view.set = xRows a k := by
  subst hn ho
  ext i
  show i ∈ ((View.whole main_arg0).slice _).set ↔ _
  rw [View.set_slice_whole, Rect.mem_set_unit, mem_xRows]
  refine Iff.trans (Fin.forall_fin_two (p := fun b : Fin 2 => (![8 * a, 0] : Fin 2 → ℕ) b ≤ (i b).val ∧ (i b).val < (![8 * a, 0] : Fin 2 → ℕ) b + (![8 * k, 512] : Fin 2 → ℕ) b)) ?_
  have h1 : (i 1).val < 512 := (i 1).isLt
  show (8 * a ≤ (i 0).val ∧ (i 0).val < 8 * a + 8 * k) ∧ (0 ≤ (i 1).val ∧ (i 1).val < 0 + 512) ↔ _
  omega

/-! ## Contents -/

section Contents

variable (m : (ℓ : Loc nD τ sig) → Buf (Elt F) ℓ)

/-- Where in a device's input the element `i` of the result is: its row counted within its half. -/
def inHalf (i : S2048x512.Idx) : S1024x512.Idx := fun a => match a with
  | ⟨0, _⟩ => ⟨(i 0).val % 1024, Nat.mod_lt _ (by decide)⟩
  | ⟨1, _⟩ => ⟨(i 1).val, (i 1).isLt⟩

/-- What device `c`'s result holds in the end: each group of rows from the device it comes from. -/
def fin (c : Dev nD) : Buf (Elt F) (outL c) := fun i : S2048x512.Idx => m (inL (src c ((i 0).val / 8))) (inHalf i)

omit [FloatOps F] in
/-- A landing place of device `c'` filled from rows of `c`'s input holds the final contents, if the rows are the ones
    `c'` has from `c`. -/
theorem landed_from_x {n k a b : ℕ} (c c' : Dev nD) {offd offs : Fin 2 → ℕ} (inbd inbs) (hn : n = 8 * k) (hd : offd = ![8 * a, 0])
    (hs : offs = ![8 * b, 0]) (hsrc : ∀ g, g < k → src c' (a + g) = c) (hmod : ∀ g, g < k → (a + g) % 128 = b + g)
    (fd : Buf (Elt F) (outL c')) :
    ((outL c') ↦[(oSlice n offd inbd).view.set]{fullShare} ((oSlice n offd inbd).view.write (Elt F) fd ((xSlice n offs inbs).view.read (Elt F) (m (inL c))) Finset.univ) : sProp 𝕄)
      = ((outL c') ↦[oRows a k]{fullShare} fin m c') := by
  rw [← oSlice_set inbd hn hd]
  refine pointsTo_congr fun i hi => ?_
  obtain ⟨j, -, rfl⟩ := Finset.mem_map.mp hi
  rw [View.write_emb_of_mem _ _ (Finset.mem_univ _), View.read_apply, cast_cast, cast_eq]
  subst hn hd hs
  have h0 : (((oSlice (8 * k) ![8 * a, 0] inbd).view.emb j : S2048x512.Idx) 0).val = 8 * a + 1 * (j 0).val := rfl
  have h1 : (((oSlice (8 * k) ![8 * a, 0] inbd).view.emb j : S2048x512.Idx) 1).val = 0 + 1 * (j 1).val := rfl
  have hj : (j 0).val < 8 * k := (j 0).isLt
  have hg : (j 0).val / 8 < k := by omega
  have hq : (8 * a + 1 * (j 0).val) / 8 = a + (j 0).val / 8 := by omega
  have hm := hmod _ hg
  unfold fin
  rw [h0, hq, hsrc _ hg]
  refine congrArg (m (inL c)) (funext fun x => ?_)
  match x with
  | ⟨0, _⟩ => exact Fin.ext (show 8 * b + 1 * (j 0).val = (8 * a + 1 * (j 0).val) % 1024 by omega)
  | ⟨1, _⟩ => exact Fin.ext (show 0 + 1 * (j 1).val = 0 + 1 * (j 1).val from rfl)

omit [FloatOps F] in
/-- A landing place of device `c'` filled from the same rows of `c`'s result holds the final contents, if the two devices
    have these rows from one. -/
theorem landed_from_o {n k a : ℕ} (c c' : Dev nD) {offd offs : Fin 2 → ℕ} (inbd inbs) (hn : n = 8 * k) (hd : offd = ![8 * a, 0])
    (hs : offs = ![8 * a, 0]) (hsrc : ∀ g, g < k → src c' (a + g) = src c (a + g)) (fd : Buf (Elt F) (outL c')) :
    ((outL c') ↦[(oSlice n offd inbd).view.set]{fullShare} ((oSlice n offd inbd).view.write (Elt F) fd ((oSlice n offs inbs).view.read (Elt F) (fin m c)) Finset.univ) : sProp 𝕄)
      = ((outL c') ↦[oRows a k]{fullShare} fin m c') := by
  rw [← oSlice_set inbd hn hd]
  refine pointsTo_congr fun i hi => ?_
  obtain ⟨j, -, rfl⟩ := Finset.mem_map.mp hi
  rw [View.write_emb_of_mem _ _ (Finset.mem_univ _), View.read_apply, cast_cast, cast_eq]
  subst hn hd hs
  have h0 : (((oSlice (8 * k) ![8 * a, 0] inbd).view.emb j : S2048x512.Idx) 0).val = 8 * a + 1 * (j 0).val := rfl
  have hj : (j 0).val < 8 * k := (j 0).isLt
  have hg : (j 0).val / 8 < k := by omega
  have hq : (8 * a + 1 * (j 0).val) / 8 = a + (j 0).val / 8 := by omega
  unfold fin
  show m (inL (src c ((8 * a + 1 * (j 0).val) / 8))) _ = m (inL (src c' ((8 * a + 1 * (j 0).val) / 8))) _
  rw [hq, hsrc _ hg]

/-! ## Pieces -/

/-- `k` groups of rows of device `c`'s result from group `a`, at share `q`, holding the final contents. -/
abbrev finPts (c : Dev nD) (a k : ℕ) (q : PosShare TreeShare) : sProp 𝕄 := (outL c) ↦[oRows a k]{q} fin m c

/-- The share a transfer's source is lent at: the input is read by the local copy too, a received chunk is sent twice;
    what is relayed is sent once. -/
def srcShare (t : Tr) : PosShare TreeShare :=
  if t.val < 9 then fullShare.left else if t.val < 25 then (if t.val % 2 = 1 then fullShare.left else fullShare.right) else fullShare

/-- What device `c` lends to its transfer `t`: rows of its input for one along the x axis, of its result for the others. -/
def srcPts (t : Tr) (c : Dev nD) : sProp 𝕄 :=
  if t.val < 9 then (inL c) ↦[xRows (xtop t c) (len t)]{srcShare t} m (inL c)
  else finPts m c (top t (peer (axis t) c)) (len t) (srcShare t)

/-- Device `c`'s landing place of transfer `t`, at contents `f`. -/
abbrev dstPts (t : Tr) (c : Dev nD) (f : Buf (Elt F) (outL c)) : sProp 𝕄 := (outL c) ↦[oRows (top t c) (len t)]{fullShare} f

omit [FloatOps F] in
instance srcPts_storable (t : Tr) (c : Dev nD) : BI.Storable (upEmb : UEmb _ 𝕄) (srcPts (F := F) m t c) := by
  unfold srcPts; split <;> infer_instance

omit [FloatOps F] in
theorem srcPts_x (t : Tr) (c : Dev nD) (h : t.val < 9) : srcPts m t c = ((inL c) ↦[xRows (xtop t c) (len t)]{srcShare t} m (inL c) : sProp 𝕄) := if_pos h
omit [FloatOps F] in
theorem srcPts_yz (t : Tr) (c : Dev nD) (h : 9 ≤ t.val) : srcPts m t c = (finPts m c (top t (peer (axis t) c)) (len t) (srcShare t) : sProp 𝕄) :=
  if_neg (by omega)

omit [FloatOps F] in
/-- What lands of a transfer along the x axis. -/
theorem landed_x {n : ℕ} (t : Tr) (c : Dev nD) (ht : t.val < 9) {offd offs : Fin 2 → ℕ} (inbd inbs) (hn : n = rows t)
    (hd : offd = ![8 * top t (peer (axis t) c), 0]) (hs : offs = ![8 * xtop t c, 0]) (fd : Buf (Elt F) (outL (peer (axis t) c))) :
    ((outL (peer (axis t) c)) ↦[(oSlice n offd inbd).view.set]{fullShare} ((oSlice n offd inbd).view.write (Elt F) fd ((xSlice n offs inbs).view.read (Elt F) (m (inL c))) Finset.univ) : sProp 𝕄)
      = dstPts t (peer (axis t) c) (fin m (peer (axis t) c)) := by
  have hlen := len_le t
  refine landed_from_x m c _ inbd inbs hn hd hs (fun g hg => src_x t c ⟨g, by omega⟩ ht hg) (fun g hg => ?_) fd
  have h1 := top_x t c ht
  have h2 := xtop_le t c
  have h3 : own c = 128 * (c.val / 16) := rfl
  omega

omit [FloatOps F] in
/-- What lands of a transfer along the other axes. -/
theorem landed_yz {n : ℕ} (t : Tr) (c : Dev nD) (ht : 9 ≤ t.val) {offd offs : Fin 2 → ℕ} (inbd inbs) (hn : n = rows t)
    (hd : offd = ![8 * top t (peer (axis t) c), 0]) (hs : offs = ![8 * top t (peer (axis t) c), 0]) (fd : Buf (Elt F) (outL (peer (axis t) c))) :
    ((outL (peer (axis t) c)) ↦[(oSlice n offd inbd).view.set]{fullShare} ((oSlice n offd inbd).view.write (Elt F) fd ((oSlice n offs inbs).view.read (Elt F) (fin m c)) Finset.univ) : sProp 𝕄)
      = dstPts t (peer (axis t) c) (fin m (peer (axis t) c)) := by
  have hlen := len_le t
  exact landed_from_o m c _ inbd inbs hn hd hs (fun g hg => src_yz t c ⟨g, by omega⟩ ht hg) fd

omit [FloatOps F] in
/-- What the local copy of the whole input leaves in the own half. -/
theorem landed_own (c : Dev nD) {offd : Fin 2 → ℕ} (inbd) (hd : offd = ![8 * own c, 0]) (fd : Buf (Elt F) (outL c)) :
    ((outL c) ↦[(oSlice 1024 offd inbd).view.set]{fullShare} ((oSlice 1024 offd inbd).view.write (Elt F) fd ((Memref.whole main_arg0 : Memref sig .tc .hbm S1024x512 .f32).view.read (Elt F) (m (inL c))) Finset.univ) : sProp 𝕄)
      = finPts m c (own c) 128 fullShare := by
  rw [oSlice_set (k := 128) inbd rfl hd]
  refine pointsTo_congr fun i hi => ?_
  rw [← oSlice_set (k := 128) inbd rfl hd] at hi
  obtain ⟨j, -, rfl⟩ := Finset.mem_map.mp hi
  rw [View.write_emb_of_mem _ _ (Finset.mem_univ _), View.read_apply, cast_cast, cast_eq]
  subst hd
  have h0 : (((oSlice 1024 ![8 * own c, 0] inbd).view.emb j : S2048x512.Idx) 0).val = 8 * own c + 1 * (j 0).val := rfl
  have hj : (j 0).val < 1024 := (j 0).isLt
  have hq : (8 * own c + 1 * (j 0).val) / 8 = own c + (j 0).val / 8 := by omega
  have hs : src c (own c + (j 0).val / 8) = c := src_own c ⟨(j 0).val / 8, by omega⟩
  unfold fin
  rw [h0, hq, hs]
  refine congrArg (m (inL c)) (funext fun x => ?_)
  match x with
  | ⟨0, _⟩ => exact Fin.ext (show (j 0).val = (8 * own c + 1 * (j 0).val) % 1024 by simp only [own]; omega)
  | ⟨1, _⟩ => exact Fin.ext (show (j 1).val = 0 + 1 * (j 1).val by omega)

/-! ## Cutting and joining -/

omit [FloatOps F] in
/-- A result buffer held whole is its own half and its landing places. -/
theorem out_split (c : Dev nD) (f : Buf (Elt F) (outL c)) :
    ((outL c) ↦{fullShare} f : sProp 𝕄)
      ⊣⊢ iprop(((outL c) ↦[oRows (own c) 128]{fullShare} f) ∗ bigSep Finset.univ fun t : Tr => dstPts t c f) := by
  have h := pointsTo_biUnion (Ix := Unit) (Name := ℕ) (U := UU) (Lvl := ℕ) (ℓ := outL c) (q := fullShare) (f := f) (Finset.univ : Finset Tr)
    (fun t => oRows (top t c) (len t)) (fun t _ u _ htu => oRows_disjoint (top_disjoint c t u htu))
  rw [← h]
  have hu := pointsTo_union (Ix := Unit) (Name := ℕ) (U := UU) (Lvl := ℕ) (ℓ := outL c) (q := fullShare) (f := f) (own_disjoint c)
  rw [← oRows_all c] at hu
  exact hu

omit [FloatOps F] in
/-- Two runs of rows that meet are one. -/
theorem finPts_add (c : Dev nD) (a k l : ℕ) (q : PosShare TreeShare) :
    finPts m c a (k + l) q ⊣⊢ (iprop(finPts m c a k q ∗ finPts m c (a + k) l q) : sProp 𝕄) := by
  unfold finPts; rw [oRows_add]
  exact pointsTo_union (oRows_disjoint (.inl le_rfl))

omit [FloatOps F] in
/-- A run of rows held whole is its two half shares. -/
theorem finPts_halves (c : Dev nD) (a k : ℕ) :
    finPts m c a k fullShare ⊣⊢ (iprop(finPts m c a k fullShare.left ∗ finPts m c a k fullShare.right) : sProp 𝕄) :=
  pointsTo_share (PosShare.mem_left_op_right _)

/-- The rows of the input no transfer reads, and the rows the transfers read. -/
def xSent (c : Dev nD) : Finset S1024x512.Idx := (Finset.univ.filter fun t : Tr => t.val < 9).biUnion fun t => xRows (xtop t c) (len t)

omit [FloatOps F] in
/-- The input held whole: a half share for the local copy; of the other half share the pieces the transfers along the
    x axis read, and the rest. -/
theorem in_split (c : Dev nD) :
    ((inL c) ↦{fullShare} m (inL c) : sProp 𝕄)
      ⊣⊢ iprop(((inL c) ↦{fullShare.right} m (inL c))
          ∗ (bigSep (Finset.univ.filter fun t : Tr => t.val < 9) fun t => srcPts m t c)
          ∗ (inL c) ↦[Finset.univ \ xSent c]{fullShare.left} m (inL c)) := by
  have h := pointsTo_biUnion (Ix := Unit) (Name := ℕ) (U := UU) (Lvl := ℕ) (ℓ := inL c) (q := fullShare.left) (f := m (inL c))
    (Finset.univ.filter fun t : Tr => t.val < 9) (fun t => xRows (xtop t c) (len t))
    (fun t ht u hu htu => xRows_disjoint (xtop_disjoint c t u (Finset.mem_filter.mp ht).2 (Finset.mem_filter.mp hu).2 htu))
  have e : (bigSep (Finset.univ.filter fun t : Tr => t.val < 9) fun t => srcPts m t c : sProp 𝕄) = ((inL c) ↦[xSent c]{fullShare.left} m (inL c)) := by
    unfold xSent; rw [h]
    exact bigSep_congr fun t ht => by
      have ht := (Finset.mem_filter.mp ht).2
      rw [srcPts_x m t c ht]; unfold srcShare; rw [if_pos ht]
  rw [e]
  have h1 := pointsTo_share (Ix := Unit) (Name := ℕ) (U := UU) (Lvl := ℕ) (ℓ := inL c) (I := Finset.univ) (f := m (inL c)) (PosShare.mem_left_op_right fullShare)
  have h2 := pointsTo_split_subset (Ix := Unit) (Name := ℕ) (U := UU) (Lvl := ℕ) (ℓ := inL c) (q := fullShare.left) (f := m (inL c)) (Finset.subset_univ (xSent c))
  exact ⟨h1.1.trans (sep_comm.1.trans (sep_mono_right h2.1)), (sep_mono_right h2.2).trans (sep_comm.1.trans h1.2)⟩

end Contents

end Cert.Gather

end
-- ==== Proof.Sched.lean ====
/-
The protocol of the kernel's semaphores, and what a device owes and waits for.

Every semaphore cell runs ONE round. A device's barrier cell has three duties of one unit, one per neighbour: the
neighbour's signal hands over the landing places, in that neighbour's result, of the transfers this device sends there.
Every transfer semaphore has one duty: the send cell gives the lent source rows back, the receive cell gives the landing
place at its final contents, the local copy's cell gives the own half filled and the lent share of the input back.

A wait is allowed below what the device still owes: the barrier cells lie at level 1, the receive cells of the x axis at
2, those of the received chunks passed on at 3, those of the relays at 4, and a device waits for a relay's rows before
it sends them, with only higher cells owed.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline library's ghost state and the protocol's lie. -/
abbrev EP : Emb (UR sig nD τ) (MT nD τ sig Unit (Elt F) ℕ UU ℕ) := embL
abbrev ER : Emb UB (MT nD τ sig Unit (Elt F) ℕ UU ℕ) := embR

/-! ## The semaphores -/

/-- The runtime's barrier semaphore. -/
abbrev barS : Sem sig := (SemArray.scalar (sig.barrier 0 rfl) : Sems sig S_).sem

/-- A transfer's place in the semaphore arrays of its axis. -/
def slot (t : Tr) : ℕ :=
  if t.val < 9 then t.val else if t.val < 25 then (t.val - 9) / 2 else if t.val < 29 then t.val - 17 else t.val - 21

theorem slot_le : ∀ t : Tr, slot t ≤ (match axis t with | 0 => 8 | 1 => 11 | 2 => 10) := by decide

/-- A transfer's send semaphore and its receive semaphore. -/
def sndS (t : Tr) : DmaSem sig :=
  (⟨((match axis t with | 0 => 0 | 1 => 18 | 2 => 42) + slot t) % 65, Nat.mod_lt _ (by decide)⟩ : Fin 65)
def rcvS (t : Tr) : DmaSem sig :=
  (⟨((match axis t with | 0 => 9 | 1 => 30 | 2 => 53) + slot t) % 65, Nat.mod_lt _ (by decide)⟩ : Fin 65)
/-- The local copy's semaphore. -/
def locS : DmaSem sig := (⟨64, by decide⟩ : Fin 65)

/-- What a transfer semaphore is for. -/
inductive Use where
  | snd (t : Tr)
  | rcv (t : Tr)
  | loc
deriving DecidableEq

/-- The transfer with a given axis and slot. -/
def trOf (a : Fin 3) (s : ℕ) : Tr := match a with
  | 0 => ⟨s % 32, Nat.mod_lt _ (by decide)⟩
  | 1 => ⟨(if s < 8 then 9 + 2 * s else 17 + s) % 32, Nat.mod_lt _ (by decide)⟩
  | 2 => ⟨(if s < 8 then 10 + 2 * s else 21 + s) % 32, Nat.mod_lt _ (by decide)⟩

def use (q : DmaSem sig) : Use :=
  let n := (q : Fin 65).val
  if n < 9 then .snd (trOf 0 n) else if n < 18 then .rcv (trOf 0 (n - 9))
  else if n < 30 then .snd (trOf 1 (n - 18)) else if n < 42 then .rcv (trOf 1 (n - 30))
  else if n < 53 then .snd (trOf 2 (n - 42)) else if n < 64 then .rcv (trOf 2 (n - 53)) else .loc

theorem use_snd : ∀ t : Tr, use (sndS t) = .snd t := by decide
theorem use_rcv : ∀ t : Tr, use (rcvS t) = .rcv t := by decide
theorem use_loc : use locS = .loc := by decide
/-- Every transfer semaphore is a send, a receive or the local copy's. -/
theorem use_inv : ∀ q : Fin 65, (match use q with | .snd t => sndS t | .rcv t => rcvS t | .loc => locS) = q := by decide

/-- A device's transfer cell and its barrier cell. -/
abbrev dcell (c : Dev nD) (q : DmaSem sig) : GSem nD τ sig := ((c : Thread nD τ), .dma q)
abbrev bcell (c : Dev nD) : GSem nD τ sig := ((c : Thread nD τ), .reg barS)
/-- All of them. -/
abbrev kcell (ck : Dev nD × SemLoc sig) : GSem nD τ sig := ((ck.1 : Thread nD τ), ck.2)

/-- What a transfer of `n` rows adds to its cells. -/
def credit (n : ℕ) : ℕ := (main_v1 : Ref sig .tc).dmaCredit ⟨2, ![n, 512]⟩ .f32

theorem credit_pos {n : ℕ} (h : 0 < n) : 0 < credit n :=
  sig.dmaCredit_pos _ _ _ _ _ (Shape.numel_pos fun a => by
    match a with
    | ⟨0, _⟩ => exact h
    | ⟨1, _⟩ => exact Nat.succ_pos _)

/-- A transfer cell's amount. -/
def amt (q : DmaSem sig) : ℕ := match use q with
  | .snd t => credit (rows t)
  | .rcv t => credit (rows t)
  | .loc => credit 1024

theorem rows_pos (t : Tr) : 0 < rows t := Nat.mul_pos (by decide) (len_pos t)
theorem amt_pos (q : DmaSem sig) : 0 < amt q := by
  unfold amt; split
  · exact credit_pos (rows_pos _)
  · exact credit_pos (rows_pos _)
  · exact credit_pos (by decide)
theorem amt_snd (t : Tr) : amt (sndS t) = credit (rows t) := by unfold amt; rw [use_snd]
theorem amt_rcv (t : Tr) : amt (rcvS t) = credit (rows t) := by unfold amt; rw [use_rcv]
theorem amt_loc : amt locS = credit 1024 := by unfold amt; rw [use_loc]

/-! ## The schedule -/

section Schedule

variable (m : (ℓ : Loc nD τ sig) → Buf (Elt F) ℓ)

/-- What the neighbour of `c` along the axis `a` hands it with its signal: the landing places, in that neighbour's
    result as it was at the start, of the transfers along `a`. -/
def barPay (a : Fin 3) (c : Dev nD) : sProp 𝕄 :=
  bigSep (Finset.univ.filter fun t : Tr => axis t = a) fun t => dstPts t (peer a c) (m (outL (peer a c)))

/-- What the local copy gives: the own half filled, the lent share of the input back. -/
def locPay (c : Dev nD) : sProp 𝕄 := iprop(finPts m c (own c) 128 fullShare ∗ ((inL c) ↦{fullShare.right} m (inL c)))

/-- What a transfer cell gives. -/
def dmaPay (q : DmaSem sig) (c : Dev nD) : sProp 𝕄 := match use q with
  | .snd t => srcPts m t c
  | .rcv t => dstPts t c (fin m c)
  | .loc => locPay m c

/-- The protocol: one round, a barrier cell with a duty per axis, a transfer cell with one duty. -/
def Rd : Rounds.Schedule (GSem nD τ sig) (Fin 3) 𝕄 where
  duties g r := if r = 0 ∧ g.1.2 = .tc then (match g.2 with | .reg _ => Finset.univ | .dma _ => {0}) else ∅
  amount g _ _ := match g.2 with | .reg _ => 1 | .dma q => amt q
  payload g _ d := match g.2 with | .reg _ => barPay m d g.1.1 | .dma q => dmaPay m q g.1.1
  amount_pos g _ _ _ := by
    match h : g.2 with
    | .reg _ => exact Nat.one_pos
    | .dma q => exact amt_pos q

instance Rd_payload_storable (g : GSem nD τ sig) (r : ℕ) (d : Fin 3) : BI.Storable (upEmb : UEmb _ 𝕄) ((Rd (F := F) m).payload g r d) := by
  show BI.Storable upEmb (match g.2 with | .reg _ => barPay m d g.1.1 | .dma q => dmaPay m q g.1.1)
  unfold barPay dmaPay locPay
  split
  · infer_instance
  · split <;> infer_instance

omit [FloatOps F] in
theorem duties_bar (c : Dev nD) : (Rd (F := F) m).duties (bcell c) 0 = Finset.univ := rfl
omit [FloatOps F] in
theorem duties_dma (c : Dev nD) (q : DmaSem sig) : (Rd (F := F) m).duties (dcell c q) 0 = {0} := rfl
omit [FloatOps F] in
theorem duties_later (g : GSem nD τ sig) : ∀ r, 1 ≤ r → (Rd (F := F) m).duties g r = ∅ :=
  fun r hr => if_neg fun h => by omega
omit [FloatOps F] in
theorem amount_dma (c : Dev nD) (q : DmaSem sig) (d : Fin 3) : (Rd (F := F) m).amount (dcell c q) 0 d = amt q := rfl
omit [FloatOps F] in
theorem expect_bar (c : Dev nD) : (Rd (F := F) m).expect (bcell c) 0 = 3 := rfl
omit [FloatOps F] in
theorem expect_dma (c : Dev nD) (q : DmaSem sig) : (Rd (F := F) m).expect (dcell c q) 0 = amt q := by
  unfold Schedule.expect Schedule.amountOf; rw [duties_dma, Finset.sum_singleton, amount_dma]
omit [FloatOps F] in
theorem payload_bar (c : Dev nD) (a : Fin 3) : (Rd (F := F) m).payload (bcell c) 0 a = barPay m a c := rfl
omit [FloatOps F] in
theorem payload_dma (c : Dev nD) (q : DmaSem sig) (d : Fin 3) : (Rd (F := F) m).payload (dcell c q) 0 d = dmaPay m q c := rfl

omit [FloatOps F] in
theorem dmaPay_snd (t : Tr) (c : Dev nD) : dmaPay m (sndS t) c = srcPts m t c := by unfold dmaPay; rw [use_snd]
omit [FloatOps F] in
theorem dmaPay_rcv (t : Tr) (c : Dev nD) : dmaPay m (rcvS t) c = (dstPts t c (fin m c) : sProp 𝕄) := by unfold dmaPay; rw [use_rcv]
omit [FloatOps F] in
theorem dmaPay_loc (c : Dev nD) : dmaPay m locS c = locPay m c := by unfold dmaPay; rw [use_loc]

omit [FloatOps F] in
/-- All of a barrier's round: the three neighbours' payloads. -/
theorem rest_bar (c : Dev nD) : bigSep ((Rd (F := F) m).duties (bcell c) 0 \ ∅) (fun d => (Rd (F := F) m).payload (bcell c) 0 d)
    = iprop(barPay m 0 c ∗ barPay m 1 c ∗ barPay m 2 c) := by
  rw [Finset.sdiff_empty, duties_bar, bigSep_univ_eq_bigSepL [0, 1, 2] (by decide) (by decide)]; rfl
omit [FloatOps F] in
/-- All of a transfer cell's round. -/
theorem rest_dma (c : Dev nD) (q : DmaSem sig) :
    bigSep ((Rd (F := F) m).duties (dcell c q) 0 \ ∅) (fun d => (Rd (F := F) m).payload (dcell c q) 0 d) = dmaPay m q c := by
  rw [Finset.sdiff_empty, duties_dma, bigSep_singleton, payload_dma]

end Schedule

/-! ## What a device owes -/

/-- What device `c` owes for the transfers `ts` it has yet to send: each one's amount to the receive cell it credits. -/
def owe (c : Dev nD) : List Tr → CellTallies nD τ sig Unit
  | [] => 0
  | t :: ts => owe c ts + tallyAt (dcell (peer (axis t) c) (rcvS t)) () (credit (rows t))

/-- All transfers, in the order of issue. -/
abbrev allTr : List Tr :=
  [0, 1, 2, 3, 4, 5, 6, 7, 8, 9, 10, 11, 12, 13, 14, 15, 16, 17, 18, 19, 20, 21, 22, 23, 24, 25, 26, 27, 28, 29, 30, 31]

/-- With the signals to the neighbours over z, over y and over x: what is owed before each, -/
def oweZ (c : Dev nD) : CellTallies nD τ sig Unit := owe c allTr + tallyAt (bcell (peer 2 c)) () 1
def oweY (c : Dev nD) : CellTallies nD τ sig Unit := oweZ c + tallyAt (bcell (peer 1 c)) () 1
/-- and at the start. -/
def oweX (c : Dev nD) : CellTallies nD τ sig Unit := oweY c + tallyAt (bcell (peer 0 c)) () 1

/-- The level of a transfer's receive cell. -/
def lvl (t : Tr) : ℕ := if t.val < 9 then 2 else if t.val < 25 then 3 else 4

/-- Levels: the barrier cells at 1, a receive cell at its transfer's, every other cell at 0. -/
def lv (g : GSem nD τ sig) (_ : Unit) : ℕ := match g.2 with
  | .reg _ => 1
  | .dma q => match use q with | .rcv t => lvl t | _ => 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (t : Tr) : lv (dcell c (rcvS t)) () = lvl t := by dsimp only [lv]; rw [use_rcv]
theorem lvl_ge (t : Tr) : 2 ≤ lvl t := by unfold lvl; split; · exact le_rfl
                                          split <;> decide

theorem owe_pos {c : Dev nD} {ts : List Tr} {g : GSem nD τ sig} {u : Unit} (h : 0 < owe c ts g u) :
    ∃ t ∈ ts, g = dcell (peer (axis t) c) (rcvS t) := by
  induction ts with
  | nil => exact absurd h (Nat.lt_irrefl 0)
  | cons t ts ih =>
    unfold owe at h
    rw [Pi.add_apply, Finsupp.add_apply, tallyAt_apply] at h
    by_cases hg : g = dcell (peer (axis t) c) (rcvS t) ∧ u = ()
    · exact ⟨t, List.mem_cons_self, hg.1⟩
    · rw [if_neg hg] at h
      obtain ⟨t', ht', e⟩ := ih h
      exact ⟨t', List.mem_cons_of_mem _ ht', e⟩

/-- The levels, as every device knows them. -/
def levs : sProp 𝕄 := (levAts L lv : sProp 𝕄)
omit [FloatOps F] in
instance levs_persistent : BI.Persistent (levs (F := F)) := by unfold levs; infer_instance

omit [FloatOps F] in
/-- A device may wait on a cell of its own whose level lies below those of all the receive cells it owes. -/
theorem mayWait (c : Dev nD) (sm : SemLoc sig) (ts : List Tr) (h : ∀ t ∈ ts, lv ((c : Thread nD τ), sm) () < lvl t) :
    levs (F := F) ⊢ MayWait (c : Thread nD τ) sm () (owe c ts) := by
  unfold levs
  exact MayOwe.of_cut (lv ((c : Thread nD τ), sm) ()) (fun p hp => by rw [Finset.mem_singleton.mp hp, L_tc]; exact Finset.mem_singleton_self _)
    (fun g u hg => by obtain ⟨t, -, rfl⟩ := owe_pos hg; rw [L_tc]; exact Finset.mem_singleton_self _)
    (fun p hp => by rw [Finset.mem_singleton.mp hp])
    (fun g u hg => by obtain ⟨t, ht, rfl⟩ := owe_pos hg; rw [lv_rcv]; exact h t ht)

end Cert.Gather

end
-- ==== Proof.Steps.lean ====
/-
One rule per kind of effect of the kernel, over a device's state.

The state lists the transfers the device has yet to send (each with its landing place at the neighbour and the two duty
tokens), those it has yet to wait for, those sent and not waited for, those whose source came back, what has landed and
stays, and the receive cells done with. A send moves its transfer from the first list to the third and spends the lent
source; the wait for a send moves it on to the fourth; the wait for a landing takes it from the second list, closes the
cell, and hands the landed rows out.
-/
module

public import proofs.«01_k».proof.Proof.Sched

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites

variable {F : FTy → Type} [FloatOps F]

local notation "𝕄" => MT nD τ sig Unit (Elt F) ℕ UU ℕ

abbrev 𝒱₀ : Variants := Variants.none

section Steps

variable (m : (ℓ : Loc nD τ sig) → Buf (Elt F) ℓ) (K : Dev nD × SemLoc sig → ℕ)

/-! ## The state -/

/-- What every device knows: every cell's invariant, that each is at its first round, and the levels. -/
def records : sProp 𝕄 :=
  iprop((bigSep Finset.univ fun ck : Dev nD × SemLoc sig => cellInv ER (Rd (F := F) m) (K ck) (kcell ck))
    ∗ (bigSep Finset.univ fun ck : Dev nD × SemLoc sig => reached ER (kcell ck) 0) ∗ levs (F := F))

instance records_persistent : BI.Persistent (records (F := F) m K) := by unfold records; infer_instance

theorem records_inv (c : Dev nD) (sm : SemLoc sig) : records (F := F) m K ⊢ cellInv ER (Rd (F := F) m) (K (c, sm)) ((c : Thread nD τ), sm) := by
  unfold records
  exact sep_elim_left.trans (bigSep_elim (Finset.mem_univ (c, sm)))
theorem records_reached (c : Dev nD) (sm : SemLoc sig) : records (F := F) m K ⊢ reached ER ((c : Thread nD τ), sm) 0 := by
  unfold records
  exact (sep_elim_right.trans sep_elim_left).trans (bigSep_elim (Finset.mem_univ (c, sm)))
theorem records_lev : records (F := F) m K ⊢ levs (F := F) := by
  unfold records
  iintro ⟨-, -, H⟩
  iexact H

/-- A device may wait on a cell of its own whose level lies below those of all the receive cells it owes. -/
theorem records_mayWait (c : Dev nD) (sm : SemLoc sig) (ts : List Tr) (h : ∀ t ∈ ts, lv ((c : Thread nD τ), sm) () < lvl t) :
    records (F := F) m K ⊢ MayWait (c : Thread nD τ) sm () (owe c ts) := (@records_lev F _ m K).trans (mayWait c sm ts h)

/-- For a transfer to send: its landing place, the tokens of its two duties, and its send cell at the first round. -/
def sendKit (c : Dev nD) (t : Tr) : sProp 𝕄 :=
  iprop(dstPts t (peer (axis t) c) (m (outL (peer (axis t) c)))
    ∗ dutyTok ER (dcell c (sndS t)) 0 (0 : Fin 3) ∗ dutyTok ER (dcell (peer (axis t) c) (rcvS t)) 0 (0 : Fin 3)
    ∗ atPos (D := Fin 3) ER (dcell c (sndS t)) 0 ∅ 0)
/-- For a transfer to wait for: its credit, and its receive cell at the first round. -/
def waitKit (c : Dev nD) (t : Tr) : sProp 𝕄 :=
  iprop(cred (tallyAt (dcell c (rcvS t)) () (credit (rows t))) ∗ atPos (D := Fin 3) ER (dcell c (rcvS t)) 0 ∅ 0)
/-- For a transfer sent: its credit, and its send cell at the first round. -/
def sentKit (c : Dev nD) (t : Tr) : sProp 𝕄 :=
  iprop(cred (tallyAt (dcell c (sndS t)) () (credit (rows t))) ∗ atPos (D := Fin 3) ER (dcell c (sndS t)) 0 ∅ 0)
/-- For a transfer whose send has been waited for: its source, and its send cell at zero. -/
def backKit (c : Dev nD) (t : Tr) : sProp 𝕄 := iprop(srcPts m t c ∗ semVal (dcell c (sndS t)) 0)

/-- A device's state. -/
def St (c : Dev nD) (ts ws ss bs gs zs : List Tr) : sProp 𝕄 :=
  iprop(records m K ∗ (∃ W, owes (c : Thread nD τ) (owe c ts) W)
    ∗ bigSepL ts (sendKit m c) ∗ bigSepL ws (waitKit c) ∗ bigSepL ss (sentKit c) ∗ bigSepL bs (backKit m c)
    ∗ bigSepL gs (fun t => dstPts t c (fin m c)) ∗ bigSepL zs (fun t => semVal (dcell c (rcvS t)) 0))

/-- The transfers sent may be listed in another order. -/
theorem St_perm (c : Dev nD) {ts ws ss ss' bs gs zs : List Tr} (h : ss.Perm ss') (hn : ss.Nodup) :
    St m K c ts ws ss bs gs zs = St m K c ts ws ss' bs gs zs := by
  unfold St; rw [bigSepL_perm h hn]

/-- What has landed may be kept for the end. -/
theorem St_keep (c : Dev nD) {ts ws ss bs gs zs : List Tr} (t : Tr) :
    iprop(St m K c ts ws ss bs gs zs ∗ dstPts t c (fin m c)) ⊢ St m K c ts ws ss bs (t :: gs) zs := by
  unfold St; rw [bigSepL_cons' t gs]
  iintro ⟨⟨#H, HO, Hts, Has, Hss, Hbs, Hgs, Hzs⟩, Hd⟩
  isplitr; · iexact H
  isplitl [HO]; · iexact HO
  isplitl [Hts]; · iexact Hts
  isplitl [Has]; · iexact Has
  isplitl [Hss]; · iexact Hss
  isplitl [Hbs]; · iexact Hbs
  isplitr [Hzs]
  · isplitl [Hd] <;> iassumption
  iexact Hzs

/-! ## The sends -/

/-- A send, whatever its source: what the source lends is the transfer's, and what lands is its landing place at the
    final contents. -/
theorem step_send {α : Type} {Q : α → sProp 𝕄} {k : PUnit → Prog (TpuEff nD τ sig (Elt F) Λ₀ .tc) α} (t : Tr) (c c' : Dev nD) (hc : c' = peer (axis t) c) {s : Shape} {src : Memref sig .tc .hbm s .f32}
    {dst : Memref sig .tc .hbm s .f32} {sS sR : DmaSem sig} (hS : sS = sndS t) (hR : sR = rcvS t)
    {hsc : (dst : Memref sig (Dev.tc c' : Thread nD τ).2.kind .hbm s .f32).view.ref.isScScratch = false}
    {hsrc : src.view.WordExact} {hdst : dst.view.WordExact}
    {hsem : DmaTarget.Typed .hbm (.dma sR) (.remote (Dev.tc c' : Thread nD τ) dst (.dma sS) hsc)}
    (hN : dst.view.amount (.dma sR) = credit (rows t)) (fs : Buf (Elt F) (src.view.loc (c : Thread nD τ)))
    (fd : Buf (Elt F) (dst.view.loc (peer (axis t) c : Thread nD τ)))
    (hs : srcPts m t c = (src.view.loc (c : Thread nD τ) ↦[src.view.set]{srcShare t} fs : sProp 𝕄))
    (hd : dstPts t (peer (axis t) c) (m (outL (peer (axis t) c))) = (dst.view.loc (peer (axis t) c : Thread nD τ) ↦[dst.view.set]{fullShare} fd : sProp 𝕄))
    (hw : (dst.view.loc (peer (axis t) c : Thread nD τ) ↦[dst.view.set]{fullShare} (dst.view.write (Elt F) fd (src.view.read (Elt F) fs) Finset.univ) : sProp 𝕄)
      = dstPts t (peer (axis t) c) (fin m (peer (axis t) c)))
    {ts ws ss bs gs zs : List Tr} :
    iprop(St m K c (t :: ts) ws ss bs gs zs ∗ srcPts m t c)
      ⊢ iprop((St m K c ts ws (t :: ss) bs gs zs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrc hdst hsem) k) Q) := by
  subst hc; subst hS; subst hR
  unfold St
  rw [bigSepL_cons' t ts, bigSepL_cons' t ss]
  iintro ⟨⟨#H, ⟨%W, HO⟩, ⟨Hk, Hts⟩, Has, Hss, Hbs, Hgs, Hzs⟩, Hsrc⟩ Hc
  unfold sendKit
  icases Hk with ⟨Hdst, HtS, HtR, Hat⟩
  ihave Hsrc := (Entails.of_eq hs) $$ Hsrc
  ihave Hdst := (Entails.of_eq hd) $$ Hdst
  iapply (Rounds.wp_send_pointsTo 𝒱₀ ER (Rd (F := F) m) (c : Thread nD τ) none (κ₁ := K (c, .dma (sndS t))) (κ₂ := K (peer (axis t) c, .dma (rcvS t)))
    (r₁ := 0) (r₂ := 0) (d₁ := 0) (d₂ := 0) (fd := fd)
    (by rw [duties_dma]; exact Finset.mem_singleton_self _) (by rw [duties_dma]; exact Finset.mem_singleton_self _)
    () () (credit (rows t)) hN ((amount_dma m c (sndS t) 0).trans (amt_snd t)) ((amount_dma m (peer (axis t) c) (rcvS t) 0).trans (amt_rcv t)) (owe c ts) rfl (W := W)
    (by rw [payload_dma, dmaPay_snd, hs]) (by rw [payload_dma, dmaPay_rcv, hw])) $$ [Hsrc Hdst HO HtS HtR]
  · isplitr; · iapply (records_inv m K c (.dma (sndS t))); iexact H
    isplitr; · iapply (records_inv m K (peer (axis t) c) (.dma (rcvS t))); iexact H
    isplitl [Hsrc]; · iexact Hsrc
    isplitl [Hdst]; · iexact Hdst
    isplitl [HO]; · iexact HO
    isplitl [HtS]; · iexact HtS
    isplitr; · iapply (records_reached m K c (.dma (sndS t))); iexact H
    isplitl [HtR]; · iexact HtR
    iapply (records_reached m K (peer (axis t) c) (.dma (rcvS t))); iexact H
  iintro ⟨Hcr, HO⟩
  iapply Hc
  isplitr; · iexact H
  isplitl [HO]; · iexists W; iexact HO
  isplitl [Hts]; · iexact Hts
  isplitl [Has]; · iexact Has
  isplitl [Hss Hcr Hat]
  · isplitr [Hss]
    · unfold sentKit; isplitl [Hcr] <;> iassumption
    iexact Hss
  isplitl [Hbs]; · iexact Hbs
  isplitl [Hgs] <;> iassumption

/-- A send along the x axis: rows of the input. -/
theorem send_x {α : Type} {Q : α → sProp 𝕄} {k : PUnit → Prog (TpuEff nD τ sig (Elt F) Λ₀ .tc) α} {n : ℕ} (t : Tr) (ht : t.val < 9) (c c' : Dev nD) (hc : c' = peer (axis t) c) {offd offs : Fin 2 → ℕ} (inbd inbs) (hn : n = rows t)
    (hd : offd = ![8 * top t (peer (axis t) c), 0]) (hs : offs = ![8 * xtop t c, 0]) {sS sR : DmaSem sig} (hS : sS = sndS t) (hR : sR = rcvS t)
    {hsc : (oSlice n offd inbd : Memref sig (Dev.tc c' : Thread nD τ).2.kind .hbm ⟨2, ![n, 512]⟩ .f32).view.ref.isScScratch = false}
    {hsrc : (xSlice n offs inbs).view.WordExact} {hdst : (oSlice n offd inbd).view.WordExact}
    {hsem : DmaTarget.Typed .hbm (.dma sR) (.remote (Dev.tc c' : Thread nD τ) (oSlice n offd inbd) (.dma sS) hsc)} {ts ws ss bs gs zs : List Tr} :
    St m K c (t :: ts) ws ss bs gs zs
      ⊢ iprop(srcPts m t c -∗ (St m K c ts ws (t :: ss) bs gs zs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xSlice n offs inbs) (.remote (Dev.tc c' : Thread nD τ) (oSlice n offd inbd) (.dma sS) hsc) (.dma sR) hsrc hdst hsem) k) Q) :=
  BI.wand_intro <| step_send m K (src := xSlice n offs inbs) (dst := oSlice n offd inbd) t c c' hc hS hR (by rw [← hn]; rfl) (m (inL c)) (m (outL (peer (axis t) c)))
    (by rw [srcPts_x m t c ht, ← xSlice_set inbs hn hs])
    (by unfold dstPts; rw [← oSlice_set inbd hn hd])
    (landed_x m t c ht inbd inbs hn hd hs _)

/-- A send along another axis: rows of the result. -/
theorem send_yz {α : Type} {Q : α → sProp 𝕄} {k : PUnit → Prog (TpuEff nD τ sig (Elt F) Λ₀ .tc) α} {n : ℕ} (t : Tr) (ht : 9 ≤ t.val) (c c' : Dev nD) (hc : c' = peer (axis t) c) {offd : Fin 2 → ℕ} (inbd inbs) (hn : n = rows t)
    (hd : offd = ![8 * top t (peer (axis t) c), 0]) {sS sR : DmaSem sig} (hS : sS = sndS t) (hR : sR = rcvS t)
    {hsc : (oSlice n offd inbd : Memref sig (Dev.tc c' : Thread nD τ).2.kind .hbm ⟨2, ![n, 512]⟩ .f32).view.ref.isScScratch = false}
    {hsrc : (oSlice n offd inbs).view.WordExact} {hdst : (oSlice n offd inbd).view.WordExact}
    {hsem : DmaTarget.Typed .hbm (.dma sR) (.remote (Dev.tc c' : Thread nD τ) (oSlice n offd inbd) (.dma sS) hsc)} {ts ws ss bs gs zs : List Tr} :
    St m K c (t :: ts) ws ss bs gs zs
      ⊢ iprop(srcPts m t c -∗ (St m K c ts ws (t :: ss) bs gs zs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSlice n offd inbs) (.remote (Dev.tc c' : Thread nD τ) (oSlice n offd inbd) (.dma sS) hsc) (.dma sR) hsrc hdst hsem) k) Q) :=
  BI.wand_intro <| step_send m K (src := oSlice n offd inbs) (dst := oSlice n offd inbd) t c c' hc hS hR (by rw [← hn]; rfl) (fin m c) (m (outL (peer (axis t) c)))
    (by rw [srcPts_yz m t c ht]; unfold finPts; rw [← oSlice_set inbs hn hd])
    (by unfold dstPts; rw [← oSlice_set inbd hn hd])
    (landed_yz m t c ht inbd inbs hn hd hd _)

/-! ## The waits -/

/-- The wait for a landing: the landed rows, the cell closed. -/
theorem recv {α : Type} {Q : α → sProp 𝕄} {k : PUnit → Prog (TpuEff nD τ sig (Elt F) Λ₀ .tc) α} (t : Tr) (c : Dev nD) {s s' : Shape} {sp sp' : Space} {e e' : EltTy} {src : Memref sig .tc sp s e} {dst : Memref sig .tc sp' s' e'} {h₁ : src.view.WordExact} {h₂ : dst.view.WordExact} {sR : DmaSem sig} (hR : sR = rcvS t)
    (hN : dst.view.dmaCredit = credit (rows t)) {ts ws ss bs gs zs : List Tr} (hlev : ∀ u ∈ ts, lvl t < lvl u) :
    St m K c ts (t :: ws) ss bs gs zs
      ⊢ iprop((iprop(St m K c ts ws ss bs gs (t :: zs) ∗ dstPts t c (fin m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h₁ h₂) k) Q) := by
  subst hR
  unfold St
  rw [bigSepL_cons' t ws, bigSepL_cons' t zs]
  iintro ⟨#H, ⟨%W, HO⟩, Hts, ⟨Hk, Has⟩, Hss, Hbs, Hgs, Hzs⟩ Hc
  unfold waitKit
  icases Hk with ⟨Hcr, Hat⟩
  iapply (Rounds.wp_wait_rest_token 𝒱₀ ER (Rd (F := F) m) (c : Thread nD τ) none (κ := K (c, .dma (rcvS t)))
      (wpE_waitDma2_eq 𝒱₀ (c : Thread nD τ) none Set.univ) (Set.mem_univ _) () (O := owe c ts) (W := W) (R := 0) (m := 0) (T := ∅)
      (by rw [Nat.zero_add, expect_dma, amt_rcv, hN])) $$ [Hcr HO Hat]
  · isplitr; · iapply (records_inv m K c (.dma (rcvS t))); iexact H
    isplitl [Hcr]; · rw [hN]; iexact Hcr
    isplitl [HO]; · iexact HO
    isplitr
    · iapply (records_mayWait m K c (.dma (rcvS t)) ts (fun u hu => by rw [lv_rcv]; exact hlev u hu)); iexact H
    iexact Hat
  iintro ⟨HO, Hat, -, Hpay⟩
  ihave Hp := (Entails.of_eq ((rest_dma m c (rcvS t)).trans (dmaPay_rcv m t c))) $$ Hpay
  imod (Rounds.cell_close ER (Rd (F := F) m) (Set.mem_univ (K (c, .dma (rcvS t)))) (fun h => h) (R := 0 + 1) (duties_later m (dcell c (rcvS t)))) $$ [Hat] with Hz
  · isplitr; · iapply (records_inv m K c (.dma (rcvS t))); iexact H
    iexact Hat
  iapply Hc
  isplitr [Hp]
  · isplitr; · iexact H
    isplitl [HO]; · iexists _; iexact HO
    isplitl [Hts]; · iexact Hts
    isplitl [Has]; · iexact Has
    isplitl [Hss]; · iexact Hss
    isplitl [Hbs]; · iexact Hbs
    isplitl [Hgs]; · iexact Hgs
    isplitl [Hz] <;> iassumption
  iexact Hp

/-- The wait for a landing, what landed kept for the end. -/
theorem recv_keep {α : Type} {Q : α → sProp 𝕄} {k : PUnit → Prog (TpuEff nD τ sig (Elt F) Λ₀ .tc) α} (t : Tr) (c : Dev nD) {s s' : Shape} {sp sp' : Space} {e e' : EltTy} {src : Memref sig .tc sp s e} {dst : Memref sig .tc sp' s' e'} {h₁ : src.view.WordExact} {h₂ : dst.view.WordExact} {sR : DmaSem sig} (hR : sR = rcvS t)
    (hN : dst.view.dmaCredit = credit (rows t)) {ts ws ss bs gs zs : List Tr} (hlev : ∀ u ∈ ts, lvl t < lvl u) :
    St m K c ts (t :: ws) ss bs gs zs
      ⊢ iprop((St m K c ts ws ss bs (t :: gs) (t :: zs) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h₁ h₂) k) Q) := by
  iintro HS Hc
  iapply (recv m K t c hR hN hlev) $$ HS
  iintro HS
  iapply Hc
  iapply (St_keep m K c t); iexact HS

/-- The wait for a send, nothing left to send: the source is back, the cell closed. -/
theorem sent {α : Type} {Q : α → sProp 𝕄} {k : PUnit → Prog (TpuEff nD τ sig (Elt F) Λ₀ .tc) α} (t : Tr) (c : Dev nD) {s s' : Shape} {sp sp' : Space} {e e' : EltTy} {src : Memref sig .tc sp s e} {dst : Memref sig .tc sp' s' e'} {h₁ : src.view.WordExact} {h₂ : dst.view.WordExact} {sS : DmaSem sig} (hS : sS = sndS t)
    (hN : dst.view.dmaCredit = credit (rows t)) {ws ss bs gs zs : List Tr} :
    St m K c [] ws (t :: ss) bs gs zs
      ⊢ iprop((St m K c [] ws ss (t :: bs) gs zs -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h₁ h₂) k) Q) := by
  subst hS
  unfold St
  rw [bigSepL_cons' t ss, bigSepL_cons' t bs]
  iintro ⟨#H, ⟨%W, HO⟩, Hts, Has, ⟨Hk, Hss⟩, Hbs, Hgs, Hzs⟩ Hc
  unfold sentKit
  icases Hk with ⟨Hcr, Hat⟩
  iapply (Rounds.wp_wait_rest_token 𝒱₀ ER (Rd (F := F) m) (c : Thread nD τ) none (κ := K (c, .dma (sndS t)))
      (wpE_waitDma2_eq 𝒱₀ (c : Thread nD τ) none Set.univ) (Set.mem_univ _) () (O := owe c []) (W := W) (R := 0) (m := 0) (T := ∅)
      (by rw [Nat.zero_add, expect_dma, amt_snd, hN])) $$ [Hcr HO Hat]
  · isplitr; · iapply (records_inv m K c (.dma (sndS t))); iexact H
    isplitl [Hcr]; · rw [hN]; iexact Hcr
    isplitl [HO]; · iexact HO
    isplitr
    · iapply (records_mayWait m K c (.dma (sndS t)) [] (fun u hu => absurd hu List.not_mem_nil)); iexact H
    iexact Hat
  iintro ⟨HO, Hat, -, Hpay⟩
  ihave Hp := (Entails.of_eq ((rest_dma m c (sndS t)).trans (dmaPay_snd m t c))) $$ Hpay
  imod (Rounds.cell_close ER (Rd (F := F) m) (Set.mem_univ (K (c, .dma (sndS t)))) (fun h => h) (R := 0 + 1) (duties_later m (dcell c (sndS t)))) $$ [Hat] with Hz
  · isplitr; · iapply (records_inv m K c (.dma (sndS t))); iexact H
    iexact Hat
  iapply Hc
  isplitr; · iexact H
  isplitl [HO]; · iexists _; iexact HO
  isplitl [Hts]; · iexact Hts
  isplitl [Has]; · iexact Has
  isplitl [Hss]; · iexact Hss
  isplitl [Hbs Hp Hz]
  · isplitr [Hbs]
    · unfold backKit; isplitl [Hp] <;> iassumption
    iexact Hbs
  isplitl [Hgs] <;> iassumption

/-- The wait for a landing in rows of the result. -/
theorem recv_o {α : Type} {Q : α → sProp 𝕄} {k : PUnit → Prog (TpuEff nD τ sig (Elt F) Λ₀ .tc) α} (t : Tr) (c : Dev nD) {n : ℕ} (hn : n = rows t) {off : Fin 2 → ℕ} {inb}
    {s : Shape} {sp : Space} {e : EltTy} {src : Memref sig .tc sp s e} {h₁ : src.view.WordExact} {h₂ : (oSlice n off inb).view.WordExact} {sR : DmaSem sig} (hR : sR = rcvS t)
    {ts ws ss bs gs zs : List Tr} (hlev : ∀ u ∈ ts, lvl t < lvl u) :
    St m K c ts (t :: ws) ss bs gs zs
      ⊢ iprop((iprop(St m K c ts ws ss bs gs (t :: zs) ∗ dstPts t c (fin m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src (oSlice n off inb) h₁ h₂) k) Q) :=
  recv m K (dst := oSlice n off inb) t c hR (by rw [← hn]; rfl) hlev

/-- The same, what landed kept for the end. -/
theorem keep_o {α : Type} {Q : α → sProp 𝕄} {k : PUnit → Prog (TpuEff nD τ sig (Elt F) Λ₀ .tc) α} (t : Tr) (c : Dev nD) {n : ℕ} (hn : n = rows t) {off : Fin 2 → ℕ} {inb}
    {s : Shape} {sp : Space} {e : EltTy} {src : Memref sig .tc sp s e} {h₁ : src.view.WordExact} {h₂ : (oSlice n off inb).view.WordExact} {sR : DmaSem sig} (hR : sR = rcvS t)
    {ws ss bs gs zs : List Tr} :
    St m K c [] (t :: ws) ss bs gs zs
      ⊢ iprop((St m K c [] ws ss bs (t :: gs) (t :: zs) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src (oSlice n off inb) h₁ h₂) k) Q) :=
  recv_keep m K (dst := oSlice n off inb) t c hR (by rw [← hn]; rfl) (fun u hu => absurd hu List.not_mem_nil)

/-- The wait for a send from rows of the input, -/
theorem sent_x {α : Type} {Q : α → sProp 𝕄} {k : PUnit → Prog (TpuEff nD τ sig (Elt F) Λ₀ .tc) α} (t : Tr) (c : Dev nD) {n : ℕ} (hn : n = rows t) {off : Fin 2 → ℕ} {inb}
    {s : Shape} {sp : Space} {e : EltTy} {src : Memref sig .tc sp s e} {h₁ : src.view.WordExact} {h₂ : (xSlice n off inb).view.WordExact} {sS : DmaSem sig} (hS : sS = sndS t)
    {ws ss bs gs zs : List Tr} :
    St m K c [] ws (t :: ss) bs gs zs
      ⊢ iprop((St m K c [] ws ss (t :: bs) gs zs -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src (xSlice n off inb) h₁ h₂) k) Q) :=
  sent m K (dst := xSlice n off inb) t c hS (by rw [← hn]; rfl)

/-- and from rows of the result. -/
theorem sent_o {α : Type} {Q : α → sProp 𝕄} {k : PUnit → Prog (TpuEff nD τ sig (Elt F) Λ₀ .tc) α} (t : Tr) (c : Dev nD) {n : ℕ} (hn : n = rows t) {off : Fin 2 → ℕ} {inb}
    {s : Shape} {sp : Space} {e : EltTy} {src : Memref sig .tc sp s e} {h₁ : src.view.WordExact} {h₂ : (oSlice n off inb).view.WordExact} {sS : DmaSem sig} (hS : sS = sndS t)
    {ws ss bs gs zs : List Tr} :
    St m K c [] ws (t :: ss) bs gs zs
      ⊢ iprop((St m K c [] ws ss (t :: bs) gs zs -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src (oSlice n off inb) h₁ h₂) k) Q) :=
  sent m K (dst := oSlice n off inb) t c hS (by rw [← hn]; rfl)

/-! ## The local copy -/

/-- For the local copy: its duty's token, its cell at the first round, the own half at `fd`, the lent share of the input. -/
def locKit (c : Dev nD) : sProp 𝕄 :=
  iprop(dutyTok ER (dcell c locS) 0 (0 : Fin 3) ∗ atPos (D := Fin 3) ER (dcell c locS) 0 ∅ 0
    ∗ ((outL c) ↦[oRows (own c) 128]{fullShare} m (outL c)) ∗ ((inL c) ↦{fullShare.right} m (inL c)))
/-- The local copy under way. -/
def locSent (c : Dev nD) : sProp 𝕄 :=
  iprop(cred (tallyAt (dcell c locS) () (credit 1024)) ∗ atPos (D := Fin 3) ER (dcell c locS) 0 ∅ 0)

/-- The local copy of the whole input. -/
theorem loc_copy {α : Type} {Q : α → sProp 𝕄} {k : PUnit → Prog (TpuEff nD τ sig (Elt F) Λ₀ .tc) α} (c : Dev nD) {offd : Fin 2 → ℕ} (inbd) (hd : offd = ![8 * own c, 0]) {sL : DmaSem sig} (hL : sL = locS)
    {hsrc : (Memref.whole main_arg0 : Memref sig .tc .hbm S1024x512 .f32).view.WordExact} {hdst : (oSlice 1024 offd inbd).view.WordExact}
    {hsem : DmaTarget.Typed (nD := nD) (τ := τ) (p := .tc) .hbm (.dma sL) (.here (oSlice 1024 offd inbd))} {ts ws ss bs gs zs : List Tr} :
    iprop(St m K c ts ws ss bs gs zs ∗ locKit m c)
      ⊢ iprop((iprop(St m K c ts ws ss bs gs zs ∗ locSent c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_arg0) (.here (oSlice 1024 offd inbd)) (.dma sL) hsrc hdst hsem) k) Q) := by
  subst hL
  have hset : (oSlice 1024 offd inbd).view.set = oRows (own c) 128 := oSlice_set (k := 128) inbd rfl hd
  have hin : (Memref.whole main_arg0 : Memref sig .tc .hbm S1024x512 .f32).view.set = Finset.univ := View.set_whole _
  unfold locKit
  iintro ⟨HS, Htok, Hat, Ho, Hi⟩ Hc
  ihave #H := (show St m K c ts ws ss bs gs zs ⊢ records m K from by unfold St; exact sep_elim_left) $$ HS
  iapply (Rounds.wp_copy_pointsTo 𝒱₀ ER (Rd (F := F) m) (c : Thread nD τ) none (κ := K (c, .dma locS)) (r := 0) (d := 0) (q := fullShare.right)
    (fs := m (inL c)) (fd := m (outL c))
    (by rw [duties_dma]; exact Finset.mem_singleton_self _) () (credit 1024) rfl ((amount_dma m c locS 0).trans amt_loc)
    (by rw [payload_dma, dmaPay_loc]; unfold locPay; rw [← landed_own m c inbd hd (m (outL c)), hin])) $$ [Htok Ho Hi]
  · isplitr; · iapply (records_inv m K c (.dma locS)); iexact H
    isplitl [Hi]; · rw [hin]; iexact Hi
    isplitl [Ho]; · rw [hset]; iexact Ho
    isplitl [Htok]; · iexact Htok
    iapply (records_reached m K c (.dma locS)); iexact H
  iintro Hcr
  iapply Hc
  isplitl [HS]; · iexact HS
  unfold locSent; isplitl [Hcr] <;> iassumption

/-- The wait for it: the own half filled, the share back, the cell closed. -/
theorem loc_wait {α : Type} {Q : α → sProp 𝕄} {k : PUnit → Prog (TpuEff nD τ sig (Elt F) Λ₀ .tc) α} (c : Dev nD) {s s' : Shape} {sp sp' : Space} {e e' : EltTy} {src : Memref sig .tc sp s e} {dst : Memref sig .tc sp' s' e'} {h₁ : src.view.WordExact} {h₂ : dst.view.WordExact} {sL : DmaSem sig} (hL : sL = locS)
    (hN : dst.view.dmaCredit = credit 1024) {ws ss bs gs zs : List Tr} :
    iprop(St m K c [] ws ss bs gs zs ∗ locSent c)
      ⊢ iprop((iprop(St m K c [] ws ss bs gs zs ∗ locPay m c ∗ semVal (dcell c locS) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sL src dst h₁ h₂) k) Q) := by
  subst hL
  unfold St locSent
  iintro ⟨⟨#H, ⟨%W, HO⟩, Hr⟩, Hcr, Hat⟩ Hc
  iapply (Rounds.wp_wait_rest_token 𝒱₀ ER (Rd (F := F) m) (c : Thread nD τ) none (κ := K (c, .dma locS))
      (wpE_waitDma2_eq 𝒱₀ (c : Thread nD τ) none Set.univ) (Set.mem_univ _) () (O := owe c []) (W := W) (R := 0) (m := 0) (T := ∅)
      (by rw [Nat.zero_add, expect_dma, amt_loc, hN])) $$ [Hcr HO Hat]
  · isplitr; · iapply (records_inv m K c (.dma locS)); iexact H
    isplitl [Hcr]; · rw [hN]; iexact Hcr
    isplitl [HO]; · iexact HO
    isplitr
    · iapply (records_mayWait m K c (.dma locS) [] (fun u hu => absurd hu List.not_mem_nil)); iexact H
    iexact Hat
  iintro ⟨HO, Hat, -, Hpay⟩
  ihave Hp := (Entails.of_eq ((rest_dma m c locS).trans (dmaPay_loc m c))) $$ Hpay
  imod (Rounds.cell_close ER (Rd (F := F) m) (Set.mem_univ (K (c, .dma locS))) (fun h => h) (R := 0 + 1) (duties_later m (dcell c locS))) $$ [Hat] with Hz
  · isplitr; · iapply (records_inv m K c (.dma locS)); iexact H
    iexact Hat
  iapply Hc
  isplitr [Hp Hz]
  · isplitr; · iexact H
    isplitl [HO]; · iexists _; iexact HO
    iexact Hr
  isplitl [Hp] <;> iassumption

/-! ## The barrier -/

/-- For the signal along the axis `a`: the token of its duty at the neighbour's barrier, and the landing places handed over. -/
def sigKit (c : Dev nD) (a : Fin 3) : sProp 𝕄 :=
  iprop(dutyTok ER (bcell (peer a c)) 0 a ∗ bigSep (Finset.univ.filter fun t : Tr => axis t = a) fun t => dstPts t c (m (outL c)))

/-- A signal to the neighbour along the axis `a`. -/
theorem signal {α : Type} {Q : α → sProp 𝕄} {k : PUnit → Prog (TpuEff nD τ sig (Elt F) Λ₀ .tc) α} (a : Fin 3) (c c' : Dev nD) (hc : c' = peer a c) (O₀ O : CellTallies nD τ sig Unit) (hO : O₀ = O + tallyAt (bcell (peer a c)) () 1)
    {W : Waits sig Unit} {n : ℕ} (hn : n = 1) :
    iprop(records m K ∗ owes (c : Thread nD τ) O₀ W ∗ sigKit m c a)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (c' : Thread nD τ) barS n) k) Q) := by
  subst hc; subst hn
  unfold sigKit
  iintro ⟨#H, HO, Htok, Hp⟩
  iapply (Rounds.wp_signal 𝒱₀ ER (Rd (F := F) m) (c : Thread nD τ) none (dst := (peer a c : Thread nD τ)) (κ := K (peer a c, .reg barS)) (r := 0)
      (d := a) (by rw [duties_bar]; exact Finset.mem_univ _) rfl () O hO)
  isplitr; · iapply (records_inv m K (peer a c) (.reg barS)); iexact H
  isplitl [HO]; · iexact HO
  isplitl [Htok]; · iexact Htok
  isplitl [Hp]
  · rw [payload_bar]; unfold barPay; rw [peer_peer]; iexact Hp
  iapply (records_reached m K (peer a c) (.reg barS)); iexact H

omit [FloatOps F] in
/-- The three neighbours' payloads are the landing places of all transfers. -/
theorem barPay_all (c : Dev nD) : (iprop(barPay m 0 c ∗ barPay m 1 c ∗ barPay m 2 c) : sProp 𝕄)
    = bigSepL allTr fun t => dstPts t (peer (axis t) c) (m (outL (peer (axis t) c))) := by
  have h (a : Fin 3) : (barPay m a c : sProp 𝕄) = bigSep (Finset.univ.filter fun t : Tr => axis t = a) fun t => dstPts t (peer (axis t) c) (m (outL (peer (axis t) c))) := by
    unfold barPay; exact bigSep_congr fun t ht => by rw [(Finset.mem_filter.mp ht).2]
  rw [h, h, h, bigSep_eq_bigSepL_of_eq (S := Finset.univ.filter fun t : Tr => axis t = 0) (allTr.filter fun t => axis t = 0) (by decide) (by decide),
    bigSep_eq_bigSepL_of_eq (S := Finset.univ.filter fun t : Tr => axis t = 1) (allTr.filter fun t => axis t = 1) (by decide) (by decide),
    bigSep_eq_bigSepL_of_eq (S := Finset.univ.filter fun t : Tr => axis t = 2) (allTr.filter fun t => axis t = 2) (by decide) (by decide)]
  rw [← bigSepL_append, ← bigSepL_append]
  exact bigSepL_perm (by decide) (by decide) _

/-- The wait on the barrier: the landing places of all transfers, the cell closed. -/
theorem bar_wait {α : Type} {Q : α → sProp 𝕄} {k : PUnit → Prog (TpuEff nD τ sig (Elt F) Λ₀ .tc) α} (c : Dev nD) {W : Waits sig Unit} {n : ℕ} (hn : n = 3) :
    iprop(records m K ∗ owes (c : Thread nD τ) (owe c allTr) W ∗ cred (tallyAt (bcell c) () 3) ∗ atPos (D := Fin 3) ER (bcell c) 0 ∅ 0)
      ⊢ iprop((iprop((∃ W, owes (c : Thread nD τ) (owe c allTr) W) ∗ semVal (bcell c) 0
              ∗ bigSepL allTr fun t => dstPts t (peer (axis t) c) (m (outL (peer (axis t) c))))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#H, HO, Hcr, Hat⟩ Hc
  iapply (Rounds.wp_wait_rest_token 𝒱₀ ER (Rd (F := F) m) (c : Thread nD τ) none (κ := K (c, .reg barS))
      (wpE_semWait_eq 𝒱₀ (c : Thread nD τ) none Set.univ) (Set.mem_univ _) () (O := owe c allTr) (W := W) (R := 0) (m := 0) (T := ∅)
      (by rw [Nat.zero_add, expect_bar])) $$ [Hcr HO Hat]
  · isplitr; · iapply (records_inv m K c (.reg barS)); iexact H
    isplitl [Hcr]; · iexact Hcr
    isplitl [HO]; · iexact HO
    isplitr
    · iapply (records_mayWait m K c (.reg barS) allTr (fun u _ => show 1 < lvl u from lvl_ge u)); iexact H
    iexact Hat
  iintro ⟨HO, Hat, -, Hpay⟩
  ihave Hp := (Entails.of_eq ((rest_bar m c).trans (barPay_all m c))) $$ Hpay
  imod (Rounds.cell_close ER (Rd (F := F) m) (Set.mem_univ (K (c, .reg barS))) (fun h => h) (R := 0 + 1) (duties_later m (bcell c))) $$ [Hat] with Hz
  · isplitr; · iapply (records_inv m K c (.reg barS)); iexact H
    iexact Hat
  iapply Hc
  isplitl [HO]; · iexists _; iexact HO
  isplitl [Hz] <;> iassumption

end Steps

end Cert.Gather

end
-- ==== Proof.Body.lean ====
/-
The kernel's body on a device, from its part of the protocol to both buffers whole, the result at its final contents.
-/
module

public import proofs.«01_k».proof.Proof.Gen.KernelIdeal.Skeleton
public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites

variable {F : FTy → Type} [FloatOps F]

local notation "𝕄" => MT nD τ sig Unit (Elt F) ℕ UU ℕ

/-! ## Sources and landing places -/

/-- The transfers over y and over z of the `i`-th received chunk. -/
def yOf (i : Fin 8) : Tr := ⟨9 + 2 * i.val, by omega⟩
def zOf (i : Fin 8) : Tr := ⟨10 + 2 * i.val, by omega⟩
/-- The transfer the chunk came with. -/
def xOf (i : Fin 8) : Tr := ⟨i.val, by omega⟩

theorem chunk_rows : ∀ (i : Fin 8) (c : Fin 32), top (yOf i) (peer (axis (yOf i)) c) = top (xOf i) c ∧ top (zOf i) (peer (axis (zOf i)) c) = top (xOf i) c := by
  decide +kernel
theorem chunk_len : ∀ i : Fin 8, len (yOf i) = len (xOf i) ∧ len (zOf i) = len (xOf i) := by decide
theorem chunk_share : ∀ i : Fin 8, 9 ≤ (yOf i).val ∧ 9 ≤ (zOf i).val ∧ (yOf i).val < 25 ∧ (zOf i).val < 25 ∧ (yOf i).val % 2 = 1 ∧ (zOf i).val % 2 = 0 := by decide

/-- What is relayed as it came: a transfer and the one that passes its rows on. -/
def relays : List (Tr × Tr) := [(16, 26), (18, 27), (21, 30), (23, 31)]
theorem relay_rows : ∀ p ∈ relays, ∀ c : Fin 32, top p.2 (peer (axis p.2) c) = top p.1 c ∧ len p.2 = len p.1 ∧ 25 ≤ p.2.val := by decide +kernel
/-- And what is relayed in part: the tail of transfers 14 and 19, the head of transfer 20. -/
theorem relay_parts : ∀ c : Fin 32, top 25 (peer (axis 25) c) = top 14 c + 2 ∧ top 29 (peer (axis 29) c) = top 19 c + 1 ∧ top 28 (peer (axis 28) c) = top 20 c := by
  decide +kernel

section Pieces

variable (m : (ℓ : Loc nD τ sig) → Buf (Elt F) ℓ)

omit [FloatOps F] in
/-- A received chunk is lent to its two transfers, half a share each. -/
theorem chunk_fork (c : Dev nD) (i : Fin 8) :
    dstPts (xOf i) c (fin m c) ⊣⊢ (iprop(srcPts m (yOf i) c ∗ srcPts m (zOf i) c) : sProp 𝕄) := by
  obtain ⟨hy, hz, hy', hz', hy2, hz2⟩ := chunk_share i
  rw [srcPts_yz m _ c hy, srcPts_yz m _ c hz, (chunk_rows i c).1, (chunk_rows i c).2, (chunk_len i).1, (chunk_len i).2]
  unfold srcShare
  rw [if_neg (by omega), if_pos hy', if_pos hy2, if_neg (by omega), if_pos hz', if_neg (by omega)]
  exact finPts_halves m c (top (xOf i) c) (len (xOf i))

omit [FloatOps F] in
theorem srcPts_relay (c : Dev nD) (u : Tr) (h : 25 ≤ u.val) : srcPts m u c = (finPts m c (top u (peer (axis u) c)) (len u) fullShare : sProp 𝕄) := by
  rw [srcPts_yz m u c (by omega)]; unfold srcShare; rw [if_neg (by omega), if_neg (by omega)]

omit [FloatOps F] in
/-- What is relayed as it came. -/
theorem relay_whole (c : Dev nD) {t u : Tr} (h : (t, u) ∈ relays) : srcPts m u c = (dstPts t c (fin m c) : sProp 𝕄) := by
  obtain ⟨h1, h2, h3⟩ := relay_rows (t, u) h c
  rw [srcPts_relay m c u h3, h1, h2]

/-- What is left of the partly relayed transfers. -/
def rest14 (c : Dev nD) : sProp 𝕄 := finPts m c (top 14 c) 2 fullShare
def rest19 (c : Dev nD) : sProp 𝕄 := finPts m c (top 19 c) 1 fullShare
def rest20 (c : Dev nD) : sProp 𝕄 := finPts m c (top 20 c + 1) 3 fullShare

omit [FloatOps F] in
theorem relay_14 (c : Dev nD) : dstPts 14 c (fin m c) ⊣⊢ (iprop(rest14 m c ∗ srcPts m 25 c) : sProp 𝕄) := by
  rw [srcPts_relay m c 25 (by decide), (relay_parts c).1]
  exact finPts_add m c (top 14 c) 2 2 fullShare
omit [FloatOps F] in
theorem relay_19 (c : Dev nD) : dstPts 19 c (fin m c) ⊣⊢ (iprop(rest19 m c ∗ srcPts m 29 c) : sProp 𝕄) := by
  rw [srcPts_relay m c 29 (by decide), (relay_parts c).2.1]
  exact finPts_add m c (top 19 c) 1 3 fullShare
omit [FloatOps F] in
theorem relay_20 (c : Dev nD) : dstPts 20 c (fin m c) ⊣⊢ (iprop(srcPts m 28 c ∗ rest20 m c) : sProp 𝕄) := by
  rw [srcPts_relay m c 28 (by decide), (relay_parts c).2.2]
  exact finPts_add m c (top 20 c) 1 3 fullShare

omit [FloatOps F] in
/-- The chunks' transfers give the chunks back. -/
theorem chunks_join (c : Dev nD) (l : List (Fin 8)) :
    bigSepL (l.flatMap fun i => [yOf i, zOf i]) (fun t => srcPts m t c) ⊢ (bigSepL (l.map xOf) (fun t => dstPts t c (fin m c)) : sProp 𝕄) := by
  induction l with
  | nil => exact .rfl
  | cons i l ih =>
    rw [List.flatMap_cons, List.map_cons, bigSepL_append, bigSepL_cons' (xOf i)]
    exact BI.sep_mono (chunk_fork m c i).2 ih

/-- The order of the waits for the sends, and the same backwards. -/
abbrev sentTr : List Tr := [0, 1, 2, 3, 4, 5, 6, 7, 8, 9, 11, 13, 15, 17, 19, 21, 23, 25, 26, 27, 28, 10, 12, 14, 16, 18, 20, 22, 24, 29, 30, 31]
abbrev sentBack : List Tr := [31, 30, 29, 24, 22, 20, 18, 16, 14, 12, 10, 28, 27, 26, 25, 23, 21, 19, 17, 15, 13, 11, 9, 8, 7, 6, 5, 4, 3, 2, 1, 0]
/-- The order of the waits for the landings, and the same backwards. -/
abbrev recvTr : List Tr := [0, 1, 2, 3, 4, 5, 6, 7, 14, 16, 18, 20, 19, 21, 23, 8, 9, 11, 13, 15, 17, 25, 26, 27, 28, 10, 12, 22, 24, 29, 30, 31]
abbrev recvBack : List Tr := [31, 30, 29, 24, 22, 12, 10, 28, 27, 26, 25, 17, 15, 13, 11, 9, 8, 23, 21, 19, 20, 18, 16, 14, 7, 6, 5, 4, 3, 2, 1, 0]
/-- Those waited for at the end, backwards. -/
abbrev lastBack : List Tr := [31, 30, 29, 24, 22, 12, 10, 28, 27, 26, 25, 17, 15, 13, 11, 9, 8]

omit [FloatOps F] in
/-- All sources back, what stayed where it landed, and what was not relayed: the sources along x and all landing places. -/
theorem join_all (c : Dev nD) :
    iprop(bigSepL sentBack (fun t => srcPts m t c) ∗ bigSepL lastBack (fun t => dstPts t c (fin m c)) ∗ rest14 m c ∗ rest19 m c ∗ rest20 m c)
      ⊢ (iprop(bigSep (Finset.univ.filter fun t : Tr => t.val < 9) (fun t => srcPts m t c) ∗ bigSep Finset.univ (fun t : Tr => dstPts t c (fin m c))) : sProp 𝕄) := by
  rw [bigSepL_perm (l' := [0, 1, 2, 3, 4, 5, 6, 7, 8] ++ (((List.finRange 8).flatMap fun i => [yOf i, zOf i]) ++ [25, 26, 27, 28, 29, 30, 31])) (by decide) (by decide),
    bigSepL_append, bigSepL_append,
    bigSep_eq_bigSepL_of_eq (S := Finset.univ.filter fun t : Tr => t.val < 9) [0, 1, 2, 3, 4, 5, 6, 7, 8] (by decide) (by decide),
    bigSep_univ_eq_bigSepL (((List.finRange 8).map xOf ++ [14, 16, 18, 20, 19, 21, 23]) ++ lastBack) (by decide) (by decide), bigSepL_append, bigSepL_append]
  iintro ⟨⟨Hx, Hc, Hr⟩, Hl, H14, H19, H20⟩
  isplitl [Hx]; · iexact Hx
  isplitr [Hl]
  · isplitl [Hc]; · iapply (chunks_join m c (List.finRange 8)); iexact Hc
    simp only [bigSepL_cons', bigSepL_nil]
    icases Hr with ⟨Ha, Hb, Hc, Hd, He, Hf, Hg, -⟩
    isplitl [H14 Ha]; · iapply (relay_14 m c).2; isplitl [H14] <;> iassumption
    isplitl [Hb]; · iapply (Entails.of_eq (relay_whole m c (t := 16) (u := 26) (by decide))); iexact Hb
    isplitl [Hc]; · iapply (Entails.of_eq (relay_whole m c (t := 18) (u := 27) (by decide))); iexact Hc
    isplitl [Hd H20]; · iapply (relay_20 m c).2; isplitl [Hd] <;> iassumption
    isplitl [H19 He]; · iapply (relay_19 m c).2; isplitl [H19] <;> iassumption
    isplitl [Hf]; · iapply (Entails.of_eq (relay_whole m c (t := 21) (u := 30) (by decide))); iexact Hf
    isplitl [Hg]; · iapply (Entails.of_eq (relay_whole m c (t := 23) (u := 31) (by decide))); iexact Hg
    iempintro
  iexact Hl

omit [FloatOps F] in
/-- Two lists of assertions side by side. -/
theorem bigSepL_both {ι : Type} (l : List ι) (Φ Ψ : ι → sProp 𝕄) : bigSepL l (fun i => iprop(Φ i ∗ Ψ i)) ⊣⊢ (iprop(bigSepL l Φ ∗ bigSepL l Ψ) : sProp 𝕄) := by
  induction l with
  | nil => exact ⟨(sep_emp (PROP := sProp 𝕄)).2, (sep_emp (PROP := sProp 𝕄)).1⟩
  | cons i l ih =>
    rw [bigSepL_cons', bigSepL_cons', bigSepL_cons']
    constructor
    · iintro ⟨⟨Ha, Hb⟩, Hl⟩
      ihave Hl := ih.1 $$ Hl
      icases Hl with ⟨Hc, Hd⟩
      isplitl [Ha Hc]
      · isplitl [Ha] <;> iassumption
      · isplitl [Hb] <;> iassumption
    · iintro ⟨⟨Ha, Hc⟩, ⟨Hb, Hd⟩⟩
      isplitl [Ha Hb]
      · isplitl [Ha] <;> iassumption
      iapply ih.2; isplitl [Hc] <;> iassumption

end Pieces

/-! ## The body -/

section Body

variable (m : (ℓ : Loc nD τ sig) → Buf (Elt F) ℓ) (K : Dev nD × SemLoc sig → ℕ)

/-- A transfer's tokens and its send cell at the first round. -/
def tokKit (c : Dev nD) (t : Tr) : sProp 𝕄 :=
  iprop(dutyTok ER (dcell c (sndS t)) 0 (0 : Fin 3) ∗ dutyTok ER (dcell (peer (axis t) c) (rcvS t)) 0 (0 : Fin 3)
    ∗ atPos (D := Fin 3) ER (dcell c (sndS t)) 0 ∅ 0)

/-- What a device has of its own at the start of the body, -/
def bodyIn (c : Dev nD) : sProp 𝕄 :=
  iprop((sigKit m c 0 ∗ sigKit m c 1 ∗ sigKit m c 2)
    ∗ cred (tallyAt (bcell c) () 3) ∗ atPos (D := Fin 3) ER (bcell c) 0 ∅ 0
    ∗ bigSepL allTr (tokKit c) ∗ bigSepL recvTr (waitKit c) ∗ locKit m c
    ∗ bigSep (Finset.univ.filter fun t : Tr => t.val < 9) fun t => srcPts m t c)

/-- what the body starts from, -/
def bodyPre (c : Dev nD) : sProp 𝕄 :=
  iprop(records m K ∗ (∃ W, owes (c : Thread nD τ) (oweX c) W) ∗ bodyIn m c)

/-- and what it ends with. -/
def bodyPost (c : Dev nD) : sProp 𝕄 :=
  iprop((∃ W, owes (c : Thread nD τ) 0 W) ∗ semVal (bcell c) 0
    ∗ bigSepL sentBack (fun t => semVal (dcell c (sndS t)) 0) ∗ bigSepL recvBack (fun t => semVal (dcell c (rcvS t)) 0)
    ∗ semVal (dcell c locS) 0 ∗ locPay m c
    ∗ (bigSep (Finset.univ.filter fun t : Tr => t.val < 9) fun t => srcPts m t c) ∗ bigSep Finset.univ fun t : Tr => dstPts t c (fin m c))

theorem St_start (c : Dev nD) :
    iprop(records m K ∗ (∃ W, owes (c : Thread nD τ) (owe c allTr) W) ∗ bigSepL allTr (tokKit c) ∗ bigSepL recvTr (waitKit c)
      ∗ bigSepL allTr (fun t => dstPts t (peer (axis t) c) (m (outL (peer (axis t) c)))))
      ⊢ St m K c allTr recvTr [] [] [] [] := by
  unfold St
  iintro ⟨#H, HO, Ht, Hw, Hd⟩
  isplitr; · iexact H
  isplitl [HO]; · iexact HO
  isplitl [Ht Hd]
  · iapply (bigSepL_both allTr (fun t => dstPts t (peer (axis t) c) (m (outL (peer (axis t) c)))) (tokKit c)).2
    isplitl [Hd] <;> iassumption
  isplitl [Hw]; · iexact Hw
  simp only [bigSepL_nil]
  isplitr; · iempintro
  isplitr; · iempintro
  isplitr <;> iempintro

/-- One chunk received along the x axis and passed on along the two others. -/
theorem chunk_step {α : Type} {Q : α → sProp 𝕄} {k : PUnit → Prog (TpuEff nD τ sig (Elt F) Λ₀ .tc) α} (i : Fin 8) (c : Dev nD) {x y z : Tr} (hx : x = xOf i) (hy : y = yOf i) (hz : z = zOf i)
    (cy cz : Dev nD) (hcy : cy = peer 1 c) (hcz : cz = peer 2 c) {offx off : Fin 2 → ℕ} {inbx inb₁ inb₂ inb₃ inb₄}
    (hoy : off = ![8 * top (yOf i) (peer 1 c), 0]) (hoz : off = ![8 * top (zOf i) (peer 2 c), 0])
    {s : Shape} {sp : Space} {e : EltTy} {src : Memref sig .tc sp s e} {h₁ : src.view.WordExact} {h₂ : (oSlice 32 offx inbx).view.WordExact}
    {sx sy ry sz rz : DmaSem sig} (hsx : sx = rcvS x) (hsy : sy = sndS y) (hry : ry = rcvS y) (hsz : sz = sndS z) (hrz : rz = rcvS z)
    {hscy : (oSlice 32 off inb₁ : Memref sig (Dev.tc cy : Thread nD τ).2.kind .hbm ⟨2, ![32, 512]⟩ .f32).view.ref.isScScratch = false}
    {hscz : (oSlice 32 off inb₃ : Memref sig (Dev.tc cz : Thread nD τ).2.kind .hbm ⟨2, ![32, 512]⟩ .f32).view.ref.isScScratch = false}
    {hy₁ : (oSlice 32 off inb₂).view.WordExact} {hy₂ : (oSlice 32 off inb₁).view.WordExact}
    {hz₁ : (oSlice 32 off inb₄).view.WordExact} {hz₂ : (oSlice 32 off inb₃).view.WordExact}
    {hy₃ : DmaTarget.Typed .hbm (.dma ry) (.remote (Dev.tc cy : Thread nD τ) (oSlice 32 off inb₁) (.dma sy) hscy)}
    {hz₃ : DmaTarget.Typed .hbm (.dma rz) (.remote (Dev.tc cz : Thread nD τ) (oSlice 32 off inb₃) (.dma sz) hscz)}
    {ts ws ss bs gs zs : List Tr} (hlev : ∀ u ∈ y :: z :: ts, lvl x < lvl u) :
    St m K c (y :: z :: ts) (x :: ws) ss bs gs zs
      ⊢ iprop((St m K c ts ws (z :: y :: ss) bs gs (x :: zs) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sx src (oSlice 32 offx inbx) h₁ h₂) fun _ =>
                .op (.enqueueDma (oSlice 32 off inb₂) (.remote (Dev.tc cy : Thread nD τ) (oSlice 32 off inb₁) (.dma sy) hscy) (.dma ry) hy₁ hy₂ hy₃) fun _ =>
                .op (.enqueueDma (oSlice 32 off inb₄) (.remote (Dev.tc cz : Thread nD τ) (oSlice 32 off inb₃) (.dma sz) hscz) (.dma rz) hz₁ hz₂ hz₃) k) Q) := by
  subst hx; subst hy; subst hz
  obtain ⟨r1, r2, r3⟩ : 32 = rows (xOf i) ∧ 32 = rows (yOf i) ∧ 32 = rows (zOf i) := by clear * -; revert i; decide
  obtain ⟨a1, a2⟩ : axis (yOf i) = 1 ∧ axis (zOf i) = 2 := by clear * -; revert i; decide
  obtain ⟨h9y, h9z, -⟩ := chunk_share i
  iintro HS Hc
  iapply (recv_o m K (xOf i) c r1 hsx hlev) $$ HS
  iintro ⟨HS, Hp⟩
  ihave Hp := (chunk_fork m c i).1 $$ Hp
  icases Hp with ⟨Hy, Hz⟩
  iapply (send_yz m K (yOf i) h9y c cy (by rw [a1]; exact hcy) inb₁ inb₂ r2 (by rw [a1]; exact hoy) hsy hry) $$ HS Hy
  iintro HS
  iapply (send_yz m K (zOf i) h9z c cz (by rw [a2]; exact hcz) inb₃ inb₄ r3 (by rw [a2]; exact hoz) hsz hrz) $$ HS Hz
  iintro HS
  iapply Hc; iexact HS

/-- The end of the body: everything waited for. -/
theorem St_end (c : Dev nD) :
    iprop(St m K c [] [] [] sentBack lastBack recvBack ∗ rest14 m c ∗ rest19 m c ∗ rest20 m c ∗ locPay m c ∗ semVal (dcell c locS) 0 ∗ semVal (bcell c) 0)
      ⊢ bodyPost m c := by
  unfold St bodyPost
  iintro ⟨⟨-, HO, -, -, -, Hb, Hg, Hz⟩, H14, H19, H20, Hl, Hzl, Hzb⟩
  ihave Hb := (show bigSepL sentBack (backKit m c) ⊢ _ from (bigSepL_both sentBack (fun t => srcPts m t c) (fun t => semVal (dcell c (sndS t)) 0)).1) $$ Hb
  icases Hb with ⟨Hb, Hzs⟩
  isplitl [HO]; · iexact HO
  isplitl [Hzb]; · iexact Hzb
  isplitl [Hzs]; · iexact Hzs
  isplitl [Hz]; · iexact Hz
  isplitl [Hzl]; · iexact Hzl
  isplitl [Hl]; · iexact Hl
  iapply (join_all m c)
  isplitl [Hb]; · iexact Hb
  isplitl [Hg]; · iexact Hg
  isplitl [H14]; · iexact H14
  isplitl [H19] <;> iassumption

set_option maxHeartbeats 4000000 in
/-- The body, one rule per effect in the program's order. -/
theorem body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            cc0_scratch0 cc0_scratch1 cc0_scratch2 cc0_scratch3 cc0_scratch4 cc0_scratch5 cc0_scratch6) Kt := by
  obtain ⟨x1, x4, x5, x6, x7, x8, x9, x10, x11, x12⟩ := dev_x c
  obtain ⟨y2, y13, y15, y17, y19, y21, y23, y25, y27, y29, y30, y31, y32⟩ := dev_y c
  obtain ⟨z3, z14, z16, z18, z20, z22, z24, z26, z28, z33, z34, z35⟩ := dev_z c
  rw [cc0_body_eq_skeleton]; unfold cc0_body_skel
  unfold bodyPre bodyIn
  iintro ⟨⟨#H, ⟨%W, HO⟩, ⟨Hs0, Hs1, Hs2⟩, Hcb, Hab, Htok, Hrw, Hloc, Hx⟩, Hk⟩
  -- the signals to the neighbours and the wait for theirs
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  iapply (signal m K 0 c _ (Fin.ext x1) (oweX c) (oweY c) rfl (by decide)) $$ [HO Hs0]
  · isplitr; · iexact H
    isplitl [HO] <;> iassumption
  iintro HO
  iapply (signal m K 1 c _ (Fin.ext y2) (oweY c) (oweZ c) rfl (by decide)) $$ [HO Hs1]
  · isplitr; · iexact H
    isplitl [HO] <;> iassumption
  iintro HO
  iapply (signal m K 2 c _ (Fin.ext z3) (oweZ c) (owe c allTr) rfl (by decide)) $$ [HO Hs2]
  · isplitr; · iexact H
    isplitl [HO] <;> iassumption
  iintro HO
  iapply (bar_wait m K c (by decide)) $$ [HO Hcb Hab]
  · isplitr; · iexact H
    isplitl [HO]; · iexact HO
    isplitl [Hcb] <;> iassumption
  iintro ⟨HO, Hzb, Hd⟩
  ihave HS := (St_start m K c) $$ [HO Htok Hrw Hd]
  · isplitr; · iexact H
    isplitl [HO]; · iexact HO
    isplitl [Htok]; · iexact Htok
    isplitl [Hrw] <;> iassumption
  ihave Hx := (Entails.of_eq (bigSep_eq_bigSepL_of_eq (S := Finset.univ.filter fun t : Tr => t.val < 9) [0, 1, 2, 3, 4, 5, 6, 7, 8] (by decide) (by decide) (fun t => srcPts m t c))) $$ Hx
  simp only [bigSepL_cons', bigSepL_nil]
  icases Hx with ⟨Hx0, Hx1, Hx2, Hx3, Hx4, Hx5, Hx6, Hx7, Hx8, -⟩
  -- the transfers along x and the local copy
  rw [k0_part4_eq_skeleton, k0_part5_eq_skeleton, k0_part6_eq_skeleton]
  unfold k0_part4_skel k0_part5_skel k0_part6_skel
  simp only [semSignalWord, semWaitWord, Prog.lift, Prog.bind_op, Prog.bind_ret, Prog.pure_eq_ret, wp_deviceId]
  iapply (send_x m K 0 (by decide) c _ (Fin.ext x4) _ _ (by decide) (off1_at c 0) (off2_at c 0) (by rfl) (by rfl)) $$ HS Hx0; iintro HS
  iapply (send_x m K 1 (by decide) c _ (Fin.ext x5) _ _ (by decide) (off1_at c 1) (off2_at c 1) (by rfl) (by rfl)) $$ HS Hx1; iintro HS
  iapply (send_x m K 2 (by decide) c _ (Fin.ext x6) _ _ (by decide) (off1_at c 2) (off2_at c 2) (by rfl) (by rfl)) $$ HS Hx2; iintro HS
  iapply (send_x m K 3 (by decide) c _ (Fin.ext x7) _ _ (by decide) (off1_at c 3) (off2_at c 3) (by rfl) (by rfl)) $$ HS Hx3; iintro HS
  iapply (send_x m K 4 (by decide) c _ (Fin.ext x8) _ _ (by decide) (off1_at c 4) (off2_at c 4) (by rfl) (by rfl)) $$ HS Hx4; iintro HS
  iapply (send_x m K 5 (by decide) c _ (Fin.ext x9) _ _ (by decide) (off1_at c 5) (off2_at c 5) (by rfl) (by rfl)) $$ HS Hx5; iintro HS
  iapply (send_x m K 6 (by decide) c _ (Fin.ext x10) _ _ (by decide) (off1_at c 6) (off2_at c 6) (by rfl) (by rfl)) $$ HS Hx6; iintro HS
  iapply (send_x m K 7 (by decide) c _ (Fin.ext x11) _ _ (by decide) (off1_at c 7) (off2_at c 7) (by rfl) (by rfl)) $$ HS Hx7; iintro HS
  iapply (send_x m K 8 (by decide) c _ (Fin.ext x12) _ _ (by decide) (off3_at c) (off4_at c) (by rfl) (by rfl)) $$ HS Hx8; iintro HS
  iapply (loc_copy m K c _ (off5_at c) (by rfl)) $$ [HS Hloc]
  · isplitl [HS] <;> iassumption
  iintro ⟨HS, Hloc⟩
  -- the received chunks, each passed on
  rw [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  iapply (chunk_step m K 0 c (x := 0) (y := 9) (z := 10) rfl rfl rfl _ _ (Fin.ext y13) (Fin.ext z14) (off6_y c 0) (off6_z c 0) (by rfl) (by rfl) (by rfl) (by rfl) (by rfl) (by decide)) $$ HS; iintro HS
  iapply (chunk_step m K 1 c (x := 1) (y := 11) (z := 12) rfl rfl rfl _ _ (Fin.ext y15) (Fin.ext z16) (off6_y c 1) (off6_z c 1) (by rfl) (by rfl) (by rfl) (by rfl) (by rfl) (by decide)) $$ HS; iintro HS
  iapply (chunk_step m K 2 c (x := 2) (y := 13) (z := 14) rfl rfl rfl _ _ (Fin.ext y17) (Fin.ext z18) (off6_y c 2) (off6_z c 2) (by rfl) (by rfl) (by rfl) (by rfl) (by rfl) (by decide)) $$ HS; iintro HS
  iapply (chunk_step m K 3 c (x := 3) (y := 15) (z := 16) rfl rfl rfl _ _ (Fin.ext y19) (Fin.ext z20) (off6_y c 3) (off6_z c 3) (by rfl) (by rfl) (by rfl) (by rfl) (by rfl) (by decide)) $$ HS; iintro HS
  iapply (chunk_step m K 4 c (x := 4) (y := 17) (z := 18) rfl rfl rfl _ _ (Fin.ext y21) (Fin.ext z22) (off6_y c 4) (off6_z c 4) (by rfl) (by rfl) (by rfl) (by rfl) (by rfl) (by decide)) $$ HS; iintro HS
  iapply (chunk_step m K 5 c (x := 5) (y := 19) (z := 20) rfl rfl rfl _ _ (Fin.ext y23) (Fin.ext z24) (off6_y c 5) (off6_z c 5) (by rfl) (by rfl) (by rfl) (by rfl) (by rfl) (by decide)) $$ HS; iintro HS
  iapply (chunk_step m K 6 c (x := 6) (y := 21) (z := 22) rfl rfl rfl _ _ (Fin.ext y25) (Fin.ext z26) (off6_y c 6) (off6_z c 6) (by rfl) (by rfl) (by rfl) (by rfl) (by rfl) (by decide)) $$ HS; iintro HS
  iapply (chunk_step m K 7 c (x := 7) (y := 23) (z := 24) rfl rfl rfl _ _ (Fin.ext y27) (Fin.ext z28) (off6_y c 7) (off6_z c 7) (by rfl) (by rfl) (by rfl) (by rfl) (by rfl) (by decide)) $$ HS; iintro HS
  -- the relays along y and along z
  rw [k0_part16_eq_skeleton, k0_part17_eq_skeleton, k0_part18_eq_skeleton, k0_part19_eq_skeleton, k0_part20_eq_skeleton]
  unfold k0_part16_skel k0_part17_skel k0_part18_skel k0_part19_skel k0_part20_skel
  simp only [semSignalWord, semWaitWord, Prog.lift, Prog.bind_op, Prog.bind_ret, Prog.pure_eq_ret, wp_deviceId]
  iapply (recv_o m K 14 c (by decide) (by rfl) (by decide)) $$ HS; iintro ⟨HS, Hp⟩
  ihave Hp := (relay_14 m c).1 $$ Hp; icases Hp with ⟨H14, Hp⟩
  iapply (send_yz m K 25 (by decide) c _ (Fin.ext y29) _ _ (by decide) (off7_at c) (by rfl) (by rfl)) $$ HS Hp; iintro HS
  iapply (recv_o m K 16 c (by decide) (by rfl) (by decide)) $$ HS; iintro ⟨HS, Hp⟩
  ihave Hp := (Entails.of_eq (relay_whole m c (t := 16) (u := 26) (by decide)).symm) $$ Hp
  iapply (send_yz m K 26 (by decide) c _ (Fin.ext y30) _ _ (by decide) (off8_at c 0) (by rfl) (by rfl)) $$ HS Hp; iintro HS
  iapply (recv_o m K 18 c (by decide) (by rfl) (by decide)) $$ HS; iintro ⟨HS, Hp⟩
  ihave Hp := (Entails.of_eq (relay_whole m c (t := 18) (u := 27) (by decide)).symm) $$ Hp
  iapply (send_yz m K 27 (by decide) c _ (Fin.ext y31) _ _ (by decide) (off8_at c 1) (by rfl) (by rfl)) $$ HS Hp; iintro HS
  iapply (recv_o m K 20 c (by decide) (by rfl) (by decide)) $$ HS; iintro ⟨HS, Hp⟩
  ihave Hp := (relay_20 m c).1 $$ Hp; icases Hp with ⟨Hp, H20⟩
  iapply (send_yz m K 28 (by decide) c _ (Fin.ext y32) _ _ (by decide) (off9_at c) (by rfl) (by rfl)) $$ HS Hp; iintro HS
  iapply (recv_o m K 19 c (by decide) (by rfl) (by decide)) $$ HS; iintro ⟨HS, Hp⟩
  ihave Hp := (relay_19 m c).1 $$ Hp; icases Hp with ⟨H19, Hp⟩
  iapply (send_yz m K 29 (by decide) c _ (Fin.ext z33) _ _ (by decide) (off10_at c) (by rfl) (by rfl)) $$ HS Hp; iintro HS
  iapply (recv_o m K 21 c (by decide) (by rfl) (by decide)) $$ HS; iintro ⟨HS, Hp⟩
  ihave Hp := (Entails.of_eq (relay_whole m c (t := 21) (u := 30) (by decide)).symm) $$ Hp
  iapply (send_yz m K 30 (by decide) c _ (Fin.ext z34) _ _ (by decide) (off11_at c 0) (by rfl) (by rfl)) $$ HS Hp; iintro HS
  iapply (recv_o m K 23 c (by decide) (by rfl) (by decide)) $$ HS; iintro ⟨HS, Hp⟩
  ihave Hp := (Entails.of_eq (relay_whole m c (t := 23) (u := 31) (by decide)).symm) $$ Hp
  iapply (send_yz m K 31 (by decide) c _ (Fin.ext z35) _ _ (by decide) (off11_at c 1) (by rfl) (by rfl)) $$ HS Hp; iintro HS
  -- the waits for the sends
  ihave HS := (Entails.of_eq (St_perm m K c (ss := [31, 30, 29, 28, 27, 26, 25, 24, 23, 22, 21, 20, 19, 18, 17, 16, 15, 14, 13, 12, 11, 10, 9, 8, 7, 6, 5, 4, 3, 2, 1, 0]) (ss' := sentTr) (by decide) (by decide))) $$ HS
  rw [k0_part21_eq_skeleton, k0_part22_eq_skeleton, k0_part23_eq_skeleton, k0_part24_eq_skeleton, k0_part25_eq_skeleton]
  unfold k0_part21_skel k0_part22_skel k0_part23_skel k0_part24_skel k0_part25_skel
  simp only [semSignalWord, semWaitWord, Prog.lift, Prog.bind_op, Prog.bind_ret, Prog.pure_eq_ret, wp_deviceId]
  iterate 9 (iapply (sent_x m K _ c (by decide) (by rfl)) $$ HS; iintro HS)
  iterate 23 (iapply (sent_o m K _ c (by decide) (by rfl)) $$ HS; iintro HS)
  -- the remaining waits for landings and the local copy's
  rw [k0_part26_eq_skeleton, k0_part27_eq_skeleton, k0_part28_eq_skeleton, k0_part29_eq_skeleton, k0_part30_eq_skeleton]
  unfold k0_part26_skel k0_part27_skel k0_part28_skel k0_part29_skel k0_part30_skel
  simp only [semSignalWord, semWaitWord, Prog.lift, Prog.bind_op, Prog.bind_ret, Prog.pure_eq_ret, wp_deviceId]
  iterate 17 (iapply (keep_o m K _ c (by decide) (by rfl)) $$ HS; iintro HS)
  iapply (loc_wait m K c (by rfl) (by rfl)) $$ [HS Hloc]
  · isplitl [HS] <;> iassumption
  iintro ⟨HS, Hl, Hzl⟩
  rw [wp_ret]; imodintro
  iapply Hk
  iapply (St_end m K c)
  isplitl [HS]; · iexact HS
  isplitl [H14]; · iexact H14
  isplitl [H19]; · iexact H19
  isplitl [H20]; · iexact H20
  isplitl [Hl]; · iexact Hl
  isplitl [Hzl] <;> iassumption

end Body

end Cert.Gather

end
-- ==== Proof.Deal.lean ====
/-
What the launch deals the devices: the semaphore cells with their rounds, the tokens of the duties, the credit.

Every semaphore of every device is a cell of the protocol. Its invariant is allocated at the launch and known to every
device; a device keeps its own cells' positions, and gets the tokens of the duties it will pay: those of its send cells
and of its local copy, and at each neighbour those of the barrier cell and of the receive cells its transfers credit.
-/
module

public import proofs.«01_k».proof.Proof.Gen.KernelIdeal.Launch
public import proofs.«01_k».proof.Proof.Body

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores, listed by use -/

/-- The kernel's own semaphores are the transfer semaphores. -/
abbrev osem : DmaSem sig → SemLoc sig := fun q => .dma q
theorem ownSemFacts : Pipeline.OwnSemFacts cfg0.spec osem := by decide

/-- The transfer semaphores: the send ones, the receive ones, the local copy's. -/
abbrev dmaList : List (DmaSem sig) := allTr.map sndS ++ (allTr.map rcvS ++ [locS])
theorem dma_all : (Finset.univ : Finset (DmaSem sig)) = dmaList.toFinset := by decide
theorem dma_nodup : dmaList.Nodup := by decide
theorem sem_all : (Finset.univ : Finset (SemLoc sig)) = (SemLoc.reg barS :: dmaList.map osem).toFinset := by decide
theorem sem_nodup : (SemLoc.reg barS :: dmaList.map osem).Nodup := by decide
theorem tr_all : (Finset.univ : Finset Tr) = allTr.toFinset := by decide
theorem tr_nodup : allTr.Nodup := by decide

omit [FloatOps F] in
theorem bigSep_dma (Φ : DmaSem sig → sProp 𝕄) :
    bigSep Finset.univ Φ = iprop((bigSep Finset.univ fun t : Tr => Φ (sndS t)) ∗ (bigSep Finset.univ fun t : Tr => Φ (rcvS t)) ∗ Φ locS) := by
  rw [bigSep_univ_eq_bigSepL dmaList dma_all dma_nodup, bigSepL_append, bigSepL_append, bigSepL_map, bigSepL_map,
    bigSep_univ_eq_bigSepL allTr tr_all tr_nodup, bigSep_univ_eq_bigSepL allTr tr_all tr_nodup]
  rfl

omit [FloatOps F] in
theorem bigSep_sem (Φ : SemLoc sig → sProp 𝕄) :
    bigSep Finset.univ Φ = iprop(Φ (.reg barS) ∗ bigSep Finset.univ fun q : DmaSem sig => Φ (.dma q)) := by
  rw [bigSep_univ_eq_bigSepL _ sem_all sem_nodup, bigSepL_cons', bigSepL_map, bigSep_univ_eq_bigSepL dmaList dma_all dma_nodup]

omit [FloatOps F] in
theorem bigSep_axis (Φ : Fin 3 → sProp 𝕄) : bigSep Finset.univ Φ = iprop(Φ 0 ∗ Φ 1 ∗ Φ 2) :=
  bigSep_univ_eq_bigSepL [0, 1, 2] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun q : DmaSem sig => semVal (dcell c q) 0 := rfl
omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl

/-! ## The cells and the tokens at the launch -/

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  subst h1 h2; rfl
def allCells : Finset (GSem nD τ sig) := Finset.univ.map ⟨kcell, kcell_injective⟩

/-- A token per cell and duty of the first round. -/
abbrev tokOf (x : (Dev nD × SemLoc sig) × Fin 3) : GSem nD τ sig × ℕ × Fin 3 := (kcell x.1, 0, x.2)
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Fin 3 => x.2.2) h
  subst h1 h2; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

section Deal

variable (m : (ℓ : Loc nD τ sig) → Buf (Elt F) ℓ)

/-- The tokens of a device's own cells. -/
def toks (c : Dev nD) : sProp 𝕄 :=
  bigSep Finset.univ fun sm : SemLoc sig => bigSep Finset.univ fun d : Fin 3 => dutyTok ER (kcell (c, sm)) 0 d

/-- What the launch deals a device, -/
def G (c : Dev nD) : sProp 𝕄 :=
  iprop((bigSep Finset.univ fun sm : SemLoc sig => roundState ER (Rd (F := F) m) (kcell (c, sm)) 0)
    ∗ ((bigSep Finset.univ fun sm : SemLoc sig => atPos (D := Fin 3) ER (kcell (c, sm)) 0 ∅ 0)
      ∗ (bigSep Finset.univ fun sm : SemLoc sig => reached (D := Fin 3) ER (kcell (c, sm)) 0)) ∗ toks c)

omit [FloatOps F] in
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd (F := F) m) allCells allToks) $$ HX with ⟨Hst, Hr, Hat, Htok⟩
  imodintro
  ihave Hst := (Entails.of_eq (hX fun g => roundState ER (Rd (F := F) m) g 0)) $$ Hst
  ihave Hat := (Entails.of_eq (hX fun g => atPos (D := Fin 3) ER g 0 ∅ 0)) $$ Hat
  ihave Hr := (Entails.of_eq (hX fun g => reached (D := Fin 3) ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd (F := F) m) κ (kcell (c, sm))))
          ∗ ((bigSep Finset.univ fun sm : SemLoc sig => atPos (D := Fin 3) ER (kcell (c, sm)) 0 ∅ 0)
            ∗ (bigSep Finset.univ fun sm : SemLoc sig => reached (D := Fin 3) ER (kcell (c, sm)) 0)) ∗ toks c) := by
  have hv : iprop(semVal (bcell c) 0 ∗ bigSep Finset.univ fun q : DmaSem sig => semVal (dcell c q) 0)
      = (bigSep Finset.univ fun sm : SemLoc sig => semVal (kcell (c, sm)) 0 : sProp 𝕄) := (bigSep_sem fun sm => semVal (kcell (c, sm)) 0).symm
  unfold G
  rw [ownSems0_eq, unscopedSems0_eq]
  iintro ⟨Hos, Hus, Hst, Hat, Htok⟩
  ihave Hv := (Entails.of_eq hv) $$ [Hos Hus]
  · isplitl [Hus] <;> iassumption
  imod (show iprop((bigSep Finset.univ fun sm : SemLoc sig => semVal (kcell (c, sm)) 0) ∗ bigSep Finset.univ fun sm : SemLoc sig => roundState ER (Rd (F := F) m) (kcell (c, sm)) 0)
      ⊢ (|={Set.univ}=> bigSep Finset.univ fun sm : SemLoc sig => iprop(∃ κ : ℕ, cellInv ER (Rd (F := F) m) κ (kcell (c, sm))) : sProp 𝕄) from by
        rw [← bigSep_sep']
        exact (bigSep_mono fun sm _ => (Rounds.body_intro ER (Rd (F := F) m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay -/

/-- Each device with its neighbour along an axis, as a bijection of the devices with something of that axis. -/
def peerE {I : Type} (ax : I → Fin 3) : Dev nD × I ≃ Dev nD × I where
  toFun x := (peer (ax x.2) x.1, x.2)
  invFun x := (peer (ax x.2) x.1, x.2)
  left_inv x := Prod.ext (peer_peer _ _) rfl
  right_inv x := Prod.ext (peer_peer _ _) rfl

/-- The tokens of the duties a device pays. -/
def payToks (c : Dev nD) : sProp 𝕄 :=
  iprop((bigSep Finset.univ fun a : Fin 3 => dutyTok ER (bcell (peer a c)) 0 a)
    ∗ (bigSep Finset.univ fun t : Tr => dutyTok ER (dcell c (sndS t)) 0 (0 : Fin 3))
    ∗ (bigSep Finset.univ fun t : Tr => dutyTok ER (dcell (peer (axis t) c) (rcvS t)) 0 (0 : Fin 3))
    ∗ dutyTok ER (dcell c locS) 0 (0 : Fin 3))

omit [FloatOps F] in
/-- Of a device's own cells' tokens, those of duties there are. -/
theorem toks_used (c : Dev nD) : (toks c : sProp 𝕄) ⊢
    iprop((bigSep Finset.univ fun a : Fin 3 => dutyTok ER (bcell c) 0 a)
      ∗ (bigSep Finset.univ fun t : Tr => dutyTok ER (dcell c (sndS t)) 0 (0 : Fin 3))
      ∗ (bigSep Finset.univ fun t : Tr => dutyTok ER (dcell c (rcvS t)) 0 (0 : Fin 3))
      ∗ dutyTok ER (dcell c locS) 0 (0 : Fin 3)) := by
  have h1 : (bigSep Finset.univ fun q : DmaSem sig => bigSep Finset.univ fun d : Fin 3 => dutyTok ER (dcell c q) 0 d : sProp 𝕄)
      ⊢ bigSep Finset.univ fun q : DmaSem sig => dutyTok ER (dcell c q) 0 (0 : Fin 3) :=
    bigSep_mono fun q _ => bigSep_elim (Finset.mem_univ (0 : Fin 3))
  unfold toks
  rw [bigSep_sem]
  rw [bigSep_dma (fun q : DmaSem sig => dutyTok ER (dcell c q) 0 (0 : Fin 3))] at h1
  exact BI.sep_mono_r h1

omit [FloatOps F] in
/-- Dealt around: a token at a neighbour's cell lies, before, with that neighbour. -/
theorem toks_around : (bigSep Finset.univ fun c : Dev nD => (toks c : sProp 𝕄)) ⊢ bigSep Finset.univ fun c : Dev nD => payToks c := by
  have h (I : Type) [Fintype I] (ax : I → Fin 3) (Φ : I → Dev nD → sProp 𝕄) :
      (bigSep Finset.univ fun c : Dev nD => bigSep Finset.univ fun i : I => Φ i c)
        = bigSep Finset.univ fun c : Dev nD => bigSep Finset.univ fun i : I => Φ i (peer (ax i) c) := by
    rw [← bigSep_univ_prod (fun x : Dev nD × I => Φ x.2 x.1), bigSep_univ_equiv (peerE ax), bigSep_univ_prod]; rfl
  have e : (bigSep Finset.univ fun c : Dev nD => iprop((bigSep Finset.univ fun a : Fin 3 => dutyTok ER (bcell c) 0 a)
      ∗ (bigSep Finset.univ fun t : Tr => dutyTok ER (dcell c (sndS t)) 0 (0 : Fin 3))
      ∗ (bigSep Finset.univ fun t : Tr => dutyTok ER (dcell c (rcvS t)) 0 (0 : Fin 3))
      ∗ dutyTok ER (dcell c locS) 0 (0 : Fin 3)) : sProp 𝕄) = bigSep Finset.univ fun c : Dev nD => payToks c := by
    unfold payToks
    simp only [bigSep_sep']
    rw [h (Fin 3) (fun a => a) (fun a c => dutyTok ER (bcell c) 0 a), h Tr axis (fun t c => dutyTok ER (dcell c (rcvS t)) 0 (0 : Fin 3))]
  rw [← e]
  exact bigSep_mono fun c _ => toks_used c

/-! ## The global step -/

/-- What every device knows of the cells. -/
def known (K : Dev nD × SemLoc sig → ℕ) : sProp 𝕄 :=
  iprop((bigSep Finset.univ fun ck : Dev nD × SemLoc sig => cellInv ER (Rd (F := F) m) (K ck) (kcell ck))
    ∗ bigSep Finset.univ fun ck : Dev nD × SemLoc sig => reached (D := Fin 3) ER (kcell ck) 0)

omit [FloatOps F] in
instance known_persistent (K : Dev nD × SemLoc sig → ℕ) : BI.Persistent (known (F := F) m K) := by unfold known; infer_instance

/-- What stays with a device: its cells' positions and the tokens it pays with. -/
def mine (c : Dev nD) : sProp 𝕄 := iprop((bigSep Finset.univ fun sm : SemLoc sig => atPos (D := Fin 3) ER (kcell (c, sm)) 0 ∅ 0) ∗ payToks c)

/-- and what the global step makes of it. -/
def G' (c : Dev nD) : sProp 𝕄 := iprop((∃ K, known m K) ∗ mine c)

omit [FloatOps F] in
theorem regroup :
    (bigSep Finset.univ fun c : Dev nD => iprop((bigSep Finset.univ fun sm : SemLoc sig => iprop(∃ κ : ℕ, cellInv ER (Rd (F := F) m) κ (kcell (c, sm))))
          ∗ ((bigSep Finset.univ fun sm : SemLoc sig => atPos (D := Fin 3) ER (kcell (c, sm)) 0 ∅ 0)
            ∗ (bigSep Finset.univ fun sm : SemLoc sig => reached (D := Fin 3) ER (kcell (c, sm)) 0)) ∗ toks c) : sProp 𝕄)
      ⊢ bigSep Finset.univ (G' m) := by
  rw [bigSep_sep', bigSep_sep', bigSep_sep', ← bigSep_univ_prod (fun ck : Dev nD × SemLoc sig => iprop(∃ κ : ℕ, cellInv ER (Rd (F := F) m) κ (kcell ck))),
    ← bigSep_univ_prod (fun ck : Dev nD × SemLoc sig => (reached (D := Fin 3) ER (kcell ck) 0 : sProp 𝕄))]
  iintro ⟨HI, ⟨Hat, #HR⟩, Htok⟩
  ihave HK := (BI.bigSep_exists_pi Finset.univ (fun (ck : Dev nD × SemLoc sig) (κ : ℕ) => (cellInv ER (Rd (F := F) m) κ (kcell ck) : sProp 𝕄))) $$ HI
  icases HK with ⟨%K, #HI⟩
  ihave Htk := (toks_around (F := F)) $$ Htok
  unfold G' mine
  simp only [bigSep_sep']
  isplitr
  · iapply (BI.bigSep_of_persistent Finset.univ (iprop(∃ K, known m K)))
    iexists K
    unfold known
    isplitr; · iexact HI
    iexact HR
  isplitl [Hat]; · iexact Hat
  iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Deal

/-! ## The credit -/

theorem bcell_eq {a b : Dev nD} (h : bcell a = bcell b) : a = b := congrArg (fun g : GSem nD τ sig => g.1.1) h
theorem dcell_eq {a b : Dev nD} {p q : DmaSem sig} (h : dcell a p = dcell b q) : a = b ∧ p = q :=
  ⟨congrArg (fun g : GSem nD τ sig => g.1.1) h, by injection (congrArg Prod.snd h : (SemLoc.dma p : SemLoc sig) = .dma q)⟩
theorem rcvS_inj {t u : Tr} (h : rcvS t = rcvS u) : t = u := by
  have := congrArg use h; rw [use_rcv, use_rcv] at this; injection this
theorem peer_eq_iff (a : Fin 3) (c d : Dev nD) : c = peer a d ↔ d = peer a c :=
  ⟨fun h => by rw [h]; exact (peer_peer a d).symm, fun h => by rw [h]; exact (peer_peer a c).symm⟩

/-- What a device owes a neighbour's receive cell for the transfers of a list. -/
theorem owe_rcv (d c : Dev nD) (t : Tr) (ts : List Tr) (hn : ts.Nodup) :
    owe d ts (dcell c (rcvS t)) () = if t ∈ ts ∧ d = peer (axis t) c then credit (rows t) else 0 := by
  induction ts with
  | nil => rw [if_neg (fun h => List.not_mem_nil h.1)]; rfl
  | cons u ts ih =>
    obtain ⟨hu, hn⟩ := List.nodup_cons.mp hn
    unfold owe
    rw [Pi.add_apply, Finsupp.add_apply, ih hn, tallyAt_apply]
    by_cases htu : t = u
    · subst htu
      rw [if_neg (fun h => hu h.1), Nat.zero_add]
      by_cases hd : d = peer (axis t) c
      · rw [if_pos ⟨by rw [← (peer_eq_iff (axis t) c d).mpr hd], rfl⟩, if_pos ⟨List.mem_cons_self, hd⟩]
      · rw [if_neg (fun h => hd ((peer_eq_iff (axis t) c d).mp (dcell_eq h.1).1)), if_neg (fun h => hd h.2)]
    · have hne : ¬ (dcell c (rcvS t) = dcell (peer (axis u) d) (rcvS u) ∧ () = ()) := fun h => htu (rcvS_inj (dcell_eq h.1).2)
      rw [if_neg hne, Nat.add_zero]
      exact if_congr ⟨fun h => ⟨List.mem_cons_of_mem _ h.1, h.2⟩, fun h => ⟨(List.mem_cons.mp h.1).resolve_left htu, h.2⟩⟩ rfl rfl

theorem owe_bar (d c : Dev nD) (ts : List Tr) : owe d ts (bcell c) () = 0 := by
  refine Nat.eq_zero_of_not_pos fun h => ?_
  obtain ⟨t, -, e⟩ := owe_pos h
  exact absurd (congrArg Prod.snd e) (fun h => by injection h)

theorem owed_rcv (d c : Dev nD) (t : Tr) : oweX d (dcell c (rcvS t)) () = if d = peer (axis t) c then credit (rows t) else 0 := by
  have hb (a : Fin 3) : (tallyAt (bcell (peer a d)) () 1 : CellTallies nD τ sig Unit) (dcell c (rcvS t)) () = 0 := by
    rw [tallyAt_apply, if_neg (fun h => absurd (congrArg Prod.snd h.1) (fun h => by injection h))]
  unfold oweX oweY oweZ
  simp only [Pi.add_apply, Finsupp.add_apply, hb, Nat.add_zero]
  rw [owe_rcv d c t allTr tr_nodup]
  exact if_congr ⟨fun h => h.2, fun h => ⟨by rw [← List.mem_toFinset, ← tr_all]; exact Finset.mem_univ t, h⟩⟩ rfl rfl

theorem owed_bar (d c : Dev nD) :
    oweX d (bcell c) () = (if d = peer 2 c then 1 else 0) + (if d = peer 1 c then 1 else 0) + (if d = peer 0 c then 1 else 0) := by
  have hb (a : Fin 3) : (tallyAt (bcell (peer a d)) () 1 : CellTallies nD τ sig Unit) (bcell c) () = if d = peer a c then 1 else 0 := by
    rw [tallyAt_apply]
    exact if_congr ⟨fun h => (peer_eq_iff a c d).mp (bcell_eq h.1), fun h => ⟨by rw [← (peer_eq_iff a c d).mpr h], rfl⟩⟩ rfl rfl
  unfold oweX oweY oweZ
  simp only [Pi.add_apply, Finsupp.add_apply, hb, owe_bar, Nat.zero_add]

theorem launch_bar (c : Dev nD) :
    tallyOn (bcell c) (launchCredit (Pipeline.owing oweX) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_rcv (c : Dev nD) (t : Tr) :
    tallyOn (dcell c (rcvS t)) (launchCredit (Pipeline.owing oweX) 0 (dcell c (rcvS t))) = (tallyAt (dcell c (rcvS t)) () (credit (rows t)) : CellTallies nD τ sig Unit) := by
  unfold tallyAt; refine congrArg _ (Finsupp.ext fun u => ?_); cases u
  rw [Pipeline.launchCredit_owing, Finsupp.single_eq_same, Finset.sum_congr rfl fun d _ => owed_rcv d c t]
  simp only [Finset.sum_ite_eq', Finset.mem_univ, if_true]

omit [FloatOps F] in
/-- A device's credit: three units at its barrier cell, and each transfer's amount at its receive cell. -/
theorem creds (c : Dev nD) :
    (Pipeline.launchCred oweX c : sProp 𝕄)
      ⊢ iprop(cred (tallyAt (bcell c) () 3) ∗ bigSep Finset.univ fun t : Tr => cred (tallyAt (dcell c (rcvS t)) () (credit (rows t)))) := by
  unfold Pipeline.launchCred
  rw [bigSep_sem, bigSep_dma]
  rw [launch_bar c]
  have h : (bigSep Finset.univ fun t : Tr => cred (tallyOn (dcell c (rcvS t)) (launchCredit (Pipeline.owing oweX) 0 (dcell c (rcvS t)))) : sProp 𝕄)
      ⊢ bigSep Finset.univ fun t : Tr => cred (tallyAt (dcell c (rcvS t)) () (credit (rows t))) :=
    bigSep_mono fun t _ => by rw [launch_rcv c t]; exact BI.Entails.refl _
  iintro ⟨H1, -, H2, -⟩
  isplitl [H1]; · iexact H1
  iapply h; iexact H2

end Cert.Gather

end
-- ==== Proof.Run.lean ====
/-
The run of the kernel: the launch on the thirty-two devices, for any float values.

A device enters with its two buffers whole and leaves with them whole: the input as it was, the result holding in each
group of rows the input of the device that group comes from.
-/
module

public import Idealize.ShloMosaic.Lib.Pipeline.CollectiveSegs
public import proofs.«01_k».proof.Proof.Deal

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Run

variable (m : (ℓ : Loc nD τ sig) → Buf (Elt F) ℓ) (ρ : Dev nD → PrngReg)

/-- The part of the input no transfer reads. -/
def spare (c : Dev nD) : sProp 𝕄 := (inL c) ↦[Finset.univ \ xSent c]{fullShare.left} m (inL c)

/-- Before the body, -/
def start (c : Dev nD) : sProp 𝕄 := iprop((∃ K, records m K) ∗ bodyIn m c ∗ spare m c)
/-- and after it: both buffers whole, every semaphore at zero. -/
def done (c : Dev nD) : sProp 𝕄 :=
  iprop(((inL c) ↦{fullShare} m (inL c)) ∗ ((outL c) ↦{fullShare} fin m c)
    ∗ semVal (bcell c) 0 ∗ bigSep Finset.univ fun q : DmaSem sig => semVal (dcell c q) 0)

def dats (_ : Fin 1) (c : Dev nD) : Dat τ (Elt F) Unit ℕ UU ℕ cfg0 c where
  A w := w.elim0
  after w := w.elim0
  Φ t := if t.val = 0 then start m c else done m c
  q w := w.elim0
  owed t := if t.val = 0 then oweX c else 0

theorem owed_first (c : Dev nD) : (dats (F := F) m 0 c).owed t0_0.castSucc = oweX c := rfl
theorem owed_last (c : Dev nD) : (dats (F := F) m 0 c).owed t0_0.succ = 0 := rfl

omit [FloatOps F] in
theorem bigSep_none (Φ : Fin 0 → sProp 𝕄) : bigSep Finset.univ Φ = (BI.emp : sProp 𝕄) := bigSep_univ_eq_bigSepL [] (by decide) (by decide) Φ

/-! ## The body's ends -/

theorem recv_all : (Finset.univ : Finset Tr) = recvTr.toFinset := by decide
theorem recv_nodup : recvTr.Nodup := by decide
theorem recvBack_all : (Finset.univ : Finset Tr) = recvBack.toFinset := by decide
theorem recvBack_nodup : recvBack.Nodup := by decide
theorem sentBack_all : (Finset.univ : Finset Tr) = sentBack.toFinset := by decide
theorem sentBack_nodup : sentBack.Nodup := by decide

/-- The body's end makes both buffers whole again. -/
theorem done_intro (c : Dev nD) : iprop(bodyPost m c ∗ spare m c) ⊢ iprop(done m c ∗ ∃ W, owes (c : Thread nD τ) 0 W) := by
  unfold bodyPost spare done locPay
  rw [bigSep_dma (fun q => semVal (dcell c q) 0), bigSep_univ_eq_bigSepL sentBack sentBack_all sentBack_nodup (fun t => semVal (dcell c (sndS t)) 0),
    bigSep_univ_eq_bigSepL recvBack recvBack_all recvBack_nodup (fun t => semVal (dcell c (rcvS t)) 0)]
  iintro ⟨⟨HO, Hzb, Hzs, Hzr, Hzl, ⟨Hown, Hx⟩, Hsrc, Hland⟩, Hsp⟩
  isplitr [HO]
  · isplitl [Hx Hsrc Hsp]
    · iapply (in_split m c).2
      isplitl [Hx]; · iexact Hx
      isplitl [Hsrc] <;> iassumption
    isplitl [Hown Hland]
    · iapply (out_split c (fin m c)).2
      isplitl [Hown] <;> iassumption
    isplitl [Hzb]; · iexact Hzb
    isplitl [Hzs]; · iexact Hzs
    isplitl [Hzr] <;> iassumption
  · iexact HO

/-- What a point's bookkeeping says is owed, and back. -/
theorem owesAt_of (c : Dev nD) (t : Fin (cfg0.N + 1)) {O : CellTallies nD τ sig Unit} (h : (dats (F := F) m 0 c).owed t = O) :
    iprop(∃ W, owes (c : Thread nD τ) O W) ⊢ ((dats (F := F) m 0 c).owesAt () t : sProp 𝕄) := by
  unfold Dat.owesAt Pipeline.owesWithin; rw [h]
  iintro ⟨%W, HO⟩
  iexists W
  isplitr; · ipureintro; exact fun _ _ => Or.inl trivial
  iexact HO
theorem of_owesAt (c : Dev nD) (t : Fin (cfg0.N + 1)) {O : CellTallies nD τ sig Unit} (h : (dats (F := F) m 0 c).owed t = O) :
    ((dats (F := F) m 0 c).owesAt () t : sProp 𝕄) ⊢ iprop(∃ W, owes (c : Thread nD τ) O W) := by
  unfold Dat.owesAt Pipeline.owesWithin; rw [h]
  iintro ⟨%W, -, HO⟩
  iexists W; iexact HO

theorem body_obligation (c : Dev nD) : BodyObligation (dats (F := F) m 0 c) (defs₀ (F := F)) 𝒱₀ () Set.univ := fun t => by
  obtain rfl := fin_N0 t
  rw [bigSep_none, bigSep_none]
  rw [show (dats m 0 c).Φ t0_0.castSucc = start m c from rfl, show (dats m 0 c).Φ t0_0.succ = done m c from rfl]
  unfold start
  iintro ⟨⟨⟨%K, #H⟩, Hin, Hsp⟩, HO, -⟩
  ihave HO := (of_owesAt m c _ (owed_first m c)) $$ HO
  iapply (body m K c _)
  isplitl [Hin HO]
  · unfold bodyPre
    isplitr; · iexact H
    isplitl [HO] <;> iassumption
  iintro Hp
  ihave Hd := (done_intro m c) $$ [Hp Hsp]
  · isplitl [Hp] <;> iassumption
  icases Hd with ⟨Hd, HO⟩
  isplitl [Hd]; · iexact Hd
  isplitl [HO]; · iapply (owesAt_of m c _ (owed_last m c)); iexact HO
  iempintro

/-! ## From the launch -/

omit [FloatOps F] in
/-- The landing places of a result, by the axis of their transfers. -/
theorem by_axis (c : Dev nD) (f : Buf (Elt F) (outL c)) :
    (bigSep Finset.univ fun t : Tr => dstPts t c f : sProp 𝕄)
      = bigSep Finset.univ fun a : Fin 3 => bigSep (Finset.univ.filter fun t : Tr => axis t = a) fun t => dstPts t c f := by
  have h1 : Disjoint (Finset.univ.filter fun t : Tr => axis t = 1) (Finset.univ.filter fun t : Tr => axis t = 2) := by decide
  have h0 : Disjoint (Finset.univ.filter fun t : Tr => axis t = 0)
      ((Finset.univ.filter fun t : Tr => axis t = 1) ∪ Finset.univ.filter fun t : Tr => axis t = 2) := by decide
  have hu : (Finset.univ : Finset Tr) = (Finset.univ.filter fun t : Tr => axis t = 0)
      ∪ ((Finset.univ.filter fun t : Tr => axis t = 1) ∪ Finset.univ.filter fun t : Tr => axis t = 2) := by decide
  rw [bigSep_axis]
  exact (congrArg (fun s => bigSep s fun t => dstPts t c f) hu).trans ((bigSep_union h0).trans (congrArg _ (bigSep_union h1)))

theorem start_intro (c : Dev nD) :
    iprop(Pipeline.unscopedRestP Pipeline.Prefetch.none cfg0.spec c (fun b => m ((c : Thread nD τ).loc b)) ∗ levAts L lv
        ∗ Pipeline.launchCred oweX c ∗ prngReg c (ρ c) ∗ G' m c)
      ⊢ |={Set.univ}=> iprop(start m c ∗ emp) := by
  rw [Pipeline.unscopedRestP_none, unscopedRest0_eq]
  unfold G' mine payToks
  rw [bigSep_sem (fun sm => atPos (D := Fin 3) ER (kcell (c, sm)) 0 ∅ 0), bigSep_dma (fun q => atPos (D := Fin 3) ER (kcell (c, .dma q)) 0 ∅ 0)]
  iintro ⟨⟨Hx, Ho⟩, Hlev, Hcr, -, ⟨%K, #HK⟩, ⟨Hab, Has, Har, Hal⟩, Htb, Hts, Htr, Htl⟩
  ihave Hc := (creds (F := F) c) $$ Hcr
  icases Hc with ⟨Hcb, Hct⟩
  ihave Hx := (in_split m c).1 $$ Hx
  icases Hx with ⟨Hxr, Hxs, Hxl⟩
  ihave Ho := (out_split c (m (outL c))).1 $$ Ho
  icases Ho with ⟨Hown, Hland⟩
  ihave Hland := (Entails.of_eq (by_axis c (m (outL c)))) $$ Hland
  ihave Hsig := (Entails.of_eq (bigSep_sep' Finset.univ (fun a : Fin 3 => dutyTok ER (bcell (peer a c)) 0 a)
    (fun a => bigSep (Finset.univ.filter fun t : Tr => axis t = a) fun t => dstPts t c (m (outL c)))).symm) $$ [Htb Hland]
  · isplitl [Htb] <;> iassumption
  ihave Hsig := (Entails.of_eq (bigSep_axis (fun a => iprop(dutyTok ER (bcell (peer a c)) 0 a
    ∗ bigSep (Finset.univ.filter fun t : Tr => axis t = a) fun t => dstPts t c (m (outL c)))))) $$ Hsig
  ihave Htok := (show iprop((bigSep Finset.univ fun t : Tr => dutyTok ER (dcell c (sndS t)) 0 (0 : Fin 3))
      ∗ (bigSep Finset.univ fun t : Tr => dutyTok ER (dcell (peer (axis t) c) (rcvS t)) 0 (0 : Fin 3))
      ∗ bigSep Finset.univ fun t : Tr => atPos (D := Fin 3) ER (dcell c (sndS t)) 0 ∅ 0) ⊢ (bigSepL allTr (tokKit c) : sProp 𝕄) from by
        rw [← bigSep_sep', ← bigSep_sep', ← bigSep_univ_eq_bigSepL allTr tr_all tr_nodup (tokKit c)]
        exact BI.Entails.refl _) $$ [Hts Htr Has]
  · isplitl [Hts]; · iexact Hts
    isplitl [Htr] <;> iassumption
  ihave Hrw := (show iprop((bigSep Finset.univ fun t : Tr => cred (tallyAt (dcell c (rcvS t)) () (credit (rows t))))
      ∗ bigSep Finset.univ fun t : Tr => atPos (D := Fin 3) ER (dcell c (rcvS t)) 0 ∅ 0) ⊢ (bigSepL recvTr (waitKit c) : sProp 𝕄) from by
        rw [← bigSep_sep', ← bigSep_univ_eq_bigSepL recvTr recv_all recv_nodup (waitKit c)]
        exact BI.Entails.refl _) $$ [Hct Har]
  · isplitl [Hct] <;> iassumption
  imodintro
  isplitl
  · unfold start bodyIn spare locKit
    isplitl [Hlev]
    · iexists K
      unfold records known levs
      icases HK with ⟨HI, HR⟩
      isplitr; · iexact HI
      isplitr; · iexact HR
      iexact Hlev
    isplitr [Hxl]
    · isplitl [Hsig]; · iexact Hsig
      isplitl [Hcb]; · iexact Hcb
      isplitl [Hab]; · iexact Hab
      isplitl [Htok]; · iexact Htok
      isplitl [Hrw]; · iexact Hrw
      isplitr [Hxs]
      · isplitl [Htl]; · iexact Htl
        isplitl [Hal]; · iexact Hal
        isplitl [Hown] <;> iassumption
      iexact Hxs
    iexact Hxl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨H, -, -⟩; iexact H

/-- What is read off at the end. -/
def left (c : Dev nD) : sProp 𝕄 := iprop(((inL c) ↦{fullShare} m (inL c)) ∗ ((outL c) ↦{fullShare} fin m c) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = done m c from rfl, scopedRest0_eq, ownSems0_eq]
  unfold done left
  rw [unscopedSems0_eq]
  iintro ⟨Hx, Ho, Hb, Hq⟩
  isplitr [Hq]
  · isplitl [Hx]; · iexact Hx
    isplitl [Ho] <;> iassumption
  isplitl [Hq]; · iexact Hq
  iempintro

/-- A final memory's contents, read off. -/
theorem left_read (c : Dev nD) (s' : Phys nD τ sig (Elt F)) :
    iprop(left m c ∗ emp ∗ SI s') ⊢ |={Set.univ}=> iprop(⌜(s'.mem.mem (inL c) = m (inL c) ∧ s'.mem.mem (outL c) = fin m c)
      ∧ ∀ sm : SemLoc sig, sm.isScoped .tc = false → s'.mem.sem ((c.tc : Thread nD τ), sm) = 0⌝ ∗ SI s' : sProp 𝕄) := by
  unfold left
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ ho⟩, hs⟩
  iexact HSI

set_option maxRecDepth 8000 in
/-- On the mesh of thirty-two devices, for any float values, from any memory with zero counters: the kernel ends, each
    device's input as it was, its result gathered, and every semaphore counter at zero. -/
theorem run_main : θ_run defs (onTc (τ := τ) (main (F := F))) ⟨m, fun _ => 0, ρ⟩
    (fun r => (∀ c : Dev nD, r.2.mem (inL c) = m (inL c) ∧ r.2.mem (outL c) = fin m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun _ w => w.elim0)
    (hdistinct := winFacts0.arr_inj)
    (O₀ := oweX) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := left m) (Z := fun _ => iprop(emp))
    (hX := start_intro m ρ) (hin := phi0_intro m) (hout := phi1_exit m)
    (QY := fun c s => (s.mem (inL c) = m (inL c) ∧ s.mem (outL c) = fin m c) ∧ ∀ sm : SemLoc sig, sm.isScoped .tc = false → s.sem ((c.tc : Thread nD τ), sm) = 0)
    (hY := left_read m)
    (hQ := fun _ h hs => ⟨fun c => (h c).2.2.1, sem_eq_zero hs fun c => (h c).2.2.2⟩)

end Run

end Cert.Gather

end
-- ==== Proof.Value.lean ====
/-
What the gathered result is: when each device's input is its block of one whole array, the result is that array. And the
run of the reference, whose function returns its argument.
-/
module

public import Idealize.ShloMosaic.Lib.Layout
public import Idealize.ShloMosaic.Lib.Quiescent
public import Idealize.ShloMosaic.Lib.StableHlo.Run
public import proofs.«01_k».proof.Proof.Gen.ReferenceIdeal
public import proofs.«01_k».proof.Proof.Run

@[expose] public section

noncomputable section

namespace Cert.Gather

open Idealize.ShloMosaic Idealize.ShloMosaic.TcCoe Idealize.SL.Sem

variable {F : FTy → Type} [FloatOps F]

section Whole

open Cert.KernelIdeal

/-- Row `r` of the result comes from a device whose block of the whole array has row `r` at `r mod 1024`. -/
theorem block_row (c : Dev nD) (r : Fin 2048) :
    Layout.meshLin [2, 4, 4] (src c (r.val / 8)).val [0] * 1024 + r.val % 1024 = r.val := by
  have h := src_half c ⟨r.val / 8, by omega⟩
  have hl : Layout.meshLin [2, 4, 4] (src c (r.val / 8)).val [0] = (src c (r.val / 8)).val / 16 % 2 * 1 + 0 := rfl
  have hr := r.isLt
  rw [hl]
  simp only at h
  omega

omit [FloatOps F] in
/-- If every device's input is its block of `x`, every device's result is `x`. -/
theorem fin_whole (m : (ℓ : Loc nD τ sig) → Buf (Elt F) ℓ) (x : (⟨2, ![2048, 512]⟩ : Shape).Idx → Elt F .f32)
    (h : ∀ c : Dev nD, m (inL c) = Layout.blockN ⟨2, ![1024, 512]⟩ ⟨2, ![2048, 512]⟩ (Layout.meshBlock [2, 4, 4] ![[0], []] c) x)
    (c : Dev nD) : fin m c = x := by
  funext i
  show m (inL (src c ((i 0).val / 8))) (inHalf i) = x i
  rw [h]
  refine congrArg x (funext fun b => Fin.ext ?_)
  match b with
  | ⟨0, _⟩ => exact block_row c (i 0)
  | ⟨1, _⟩ =>
    show 0 * 512 + (i 1).val = (i 1).val
    omega

end Whole

section Reference

open Cert.ReferenceIdeal Cert.ReferenceIdeal.Gen

/-- The reference ends with its argument, which is its result, as it was. -/
theorem ref_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Reference

end Cert.Gather

end
-- ==== Proof.lean ====
/-
The claims: the kernel, in both readings, and the reference each run, leave their arguments and end with every counter at
zero; the two readings are one text; and on real numbers every device's result is the whole array the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.Gather

/-- The kernel on floats ends, its argument as it was and every counter at zero. -/
theorem frame_kernel : Cert.quiescent_Kernel := fun m ρ _ =>
  (θ_run Cert.KernelIdeal.defs _ _).mono (fun _ h => ⟨fun c => (h.1 c).1, h.2⟩) (run_main (F := Bits) m ρ)

/-- The kernel on real numbers does the same, -/
theorem frame_kernelIdeal : Cert.quiescent_KernelIdeal := fun m ρ _ =>
  (θ_run Cert.KernelIdeal.defs _ _).mono (fun _ h => ⟨fun c => (h.1 c).1, h.2⟩) (run_main (F := Ideal) m ρ)

/-- and so does the reference. -/
theorem frame_referenceIdeal : Cert.quiescent_ReferenceIdeal := fun m ρ _ => ref_main (F := Ideal) m ρ

/-- From the blocks of one whole array, every device's result is that array: what the reference returns. -/
theorem algebraic : Cert.algebraic_KernelIdeal_ReferenceIdeal := by
  intro m ρ m' ρ' _ hblocks
  refine ⟨m' (((0 : Dev Cert.ReferenceIdeal.nD).tc : Thread _ Cert.ReferenceIdeal.τ).loc Cert.ReferenceIdeal.main_arg0), ?_, ?_⟩
  · exact (θ_run Cert.KernelIdeal.defs _ _).mono (fun _ h c => ⟨(h.1 c).2.trans (fin_whole m _ hblocks c), (h.1 c).1⟩)
      (run_main (F := Ideal) m ρ)
  · exact (θ_run Cert.ReferenceIdeal.defs _ _).mono (fun _ h => ⟨h.1 0, h.1 0⟩) (ref_main (F := Ideal) m' ρ')

/-- The claims together. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
